-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_node_numbers [hPre_node_numbers : Cert.Pre_node_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_node_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_node_numbers [hPre_node_numbers : Cert.Pre_node_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_node_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_first_nodes [hPre_first_nodes : Cert.Pre_first_nodes.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_first_nodes.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3)) (m ((c.tc : Thread Cert.ScoresIdeal.nD Cert.ScoresIdeal.τ).loc Cert.ScoresIdeal.main_arg4))) = (fun _ => 1#1)

def Pre_ScoresReferenceIdeal (m : (ℓ : Loc Cert.ScoresReferenceIdeal.nD Cert.ScoresReferenceIdeal.τ Cert.ScoresReferenceIdeal.sig) → Buf (Elt Ideal) ℓ) : Prop :=
  True

def Pre_ScoresReferenceIdeal_first_nodes [hPre_first_nodes : Cert.Pre_first_nodes.Facts] (m : (ℓ : Loc Cert.ScoresReferenceIdeal.nD Cert.ScoresReferenceIdeal.τ Cert.ScoresReferenceIdeal.sig) → Buf (Elt Ideal) ℓ) : Prop :=
  ∀ c : Dev Cert.ScoresReferenceIdeal.nD,
    (Cert.Pre_first_nodes.fn (F := Ideal) (m ((c.tc : Thread Cert.ScoresReferenceIdeal.nD Cert.ScoresReferenceIdeal.τ).loc Cert.ScoresReferenceIdeal.main_arg0)) (m ((c.tc : Thread Cert.ScoresReferenceIdeal.nD Cert.ScoresReferenceIdeal.τ).loc Cert.ScoresReferenceIdeal.main_arg1)) (m ((c.tc : Thread Cert.ScoresReferenceIdeal.nD Cert.ScoresReferenceIdeal.τ).loc Cert.ScoresReferenceIdeal.main_arg2)) (m ((c.tc : Thread Cert.ScoresReferenceIdeal.nD Cert.ScoresReferenceIdeal.τ).loc Cert.ScoresReferenceIdeal.main_arg3)) (m ((c.tc : Thread Cert.ScoresReferenceIdeal.nD Cert.ScoresReferenceIdeal.τ).loc Cert.ScoresReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_node_numbers [hKernelIdeal : Cert.KernelIdeal.Facts] [hPre_node_numbers : Cert.Pre_node_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_node_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_node_numbers [hReferenceIdeal : Cert.ReferenceIdeal.Facts] [hPre_node_numbers : Cert.Pre_node_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_node_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresIdeal_pre_first_nodes [hScoresIdeal : Cert.ScoresIdeal.Facts] [hPre_first_nodes : Cert.Pre_first_nodes.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_first_nodes m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def quiescent_ScoresReferenceIdeal_pre_first_nodes [hScoresReferenceIdeal : Cert.ScoresReferenceIdeal.Facts] [hPre_first_nodes : Cert.Pre_first_nodes.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal_first_nodes m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def preserves_Kernel_KernelIdeal : Prop :=
  True

def algebraic_KernelIdeal_ReferenceIdeal_pre_node_numbers [hKernelIdeal : Cert.KernelIdeal.Facts] [hReferenceIdeal : Cert.ReferenceIdeal.Facts] [hPre_node_numbers : Cert.Pre_node_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_node_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v230) = v1 c
          ∧ r.2.mem ((c.tc : Thread Cert.ReferenceIdeal.nD Cert.ReferenceIdeal.τ).loc Cert.ReferenceIdeal.main_v231) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v12) = v0 c
          ∧ r.2.mem ((c.tc : Thread Cert.QkvReferenceIdeal.nD Cert.QkvReferenceIdeal.τ).loc Cert.QkvReferenceIdeal.main_v13) = v1 c
          ∧ r.2.mem ((c.tc : Thread Cert.QkvReferenceIdeal.nD Cert.QkvReferenceIdeal.τ).loc Cert.QkvReferenceIdeal.main_v14) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6))

def preserves_Scores_ScoresIdeal : Prop :=
  True

def algebraic_ScoresIdeal_ScoresReferenceIdeal_pre_first_nodes [hScoresIdeal : Cert.ScoresIdeal.Facts] [hScoresReferenceIdeal : Cert.ScoresReferenceIdeal.Facts] [hPre_first_nodes : Cert.Pre_first_nodes.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal_first_nodes m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)
      ∧ m' ((c.tc : Thread Cert.ScoresReferenceIdeal.nD Cert.ScoresReferenceIdeal.τ).loc Cert.ScoresReferenceIdeal.main_arg3) = m ((c.tc : Thread Cert.ScoresIdeal.nD Cert.ScoresIdeal.τ).loc Cert.ScoresIdeal.main_arg3)
      ∧ m' ((c.tc : Thread Cert.ScoresReferenceIdeal.nD Cert.ScoresReferenceIdeal.τ).loc Cert.ScoresReferenceIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v2)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v2) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v36) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2)
          ∧ r.2.mem ((c.tc : Thread Cert.ScoresReferenceIdeal.nD Cert.ScoresReferenceIdeal.τ).loc Cert.ScoresReferenceIdeal.main_arg3) = m' ((c.tc : Thread Cert.ScoresReferenceIdeal.nD Cert.ScoresReferenceIdeal.τ).loc Cert.ScoresReferenceIdeal.main_arg3)
          ∧ r.2.mem ((c.tc : Thread Cert.ScoresReferenceIdeal.nD Cert.ScoresReferenceIdeal.τ).loc Cert.ScoresReferenceIdeal.main_arg4) = m' ((c.tc : Thread Cert.ScoresReferenceIdeal.nD Cert.ScoresReferenceIdeal.τ).loc Cert.ScoresReferenceIdeal.main_arg4))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hScores : Cert.Scores.Facts) (hScoresIdeal : Cert.ScoresIdeal.Facts) (hScoresReferenceIdeal : Cert.ScoresReferenceIdeal.Facts) (hPre_node_numbers : Cert.Pre_node_numbers.Facts) (hPre_first_nodes : Cert.Pre_first_nodes.Facts),
    quiescent_Kernel (hKernel := hKernel)
    ∧ quiescent_KernelIdeal (hKernelIdeal := hKernelIdeal)
    ∧ quiescent_KernelIdeal_pre_node_numbers (hKernelIdeal := hKernelIdeal) (hPre_node_numbers := hPre_node_numbers)
    ∧ quiescent_ReferenceIdeal (hReferenceIdeal := hReferenceIdeal)
    ∧ quiescent_ReferenceIdeal_pre_node_numbers (hReferenceIdeal := hReferenceIdeal) (hPre_node_numbers := hPre_node_numbers)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Scores (hScores := hScores)
    ∧ quiescent_ScoresIdeal (hScoresIdeal := hScoresIdeal)
    ∧ quiescent_ScoresIdeal_pre_first_nodes (hScoresIdeal := hScoresIdeal) (hPre_first_nodes := hPre_first_nodes)
    ∧ quiescent_ScoresReferenceIdeal (hScoresReferenceIdeal := hScoresReferenceIdeal)
    ∧ quiescent_ScoresReferenceIdeal_pre_first_nodes (hScoresReferenceIdeal := hScoresReferenceIdeal) (hPre_first_nodes := hPre_first_nodes)
    ∧ preserves_Kernel_KernelIdeal
    ∧ algebraic_KernelIdeal_ReferenceIdeal_pre_node_numbers (hKernelIdeal := hKernelIdeal) (hReferenceIdeal := hReferenceIdeal) (hPre_node_numbers := hPre_node_numbers)
    ∧ preserves_Qkv_QkvIdeal
    ∧ algebraic_QkvIdeal_QkvReferenceIdeal (hQkvIdeal := hQkvIdeal) (hQkvReferenceIdeal := hQkvReferenceIdeal)
    ∧ preserves_Scores_ScoresIdeal
    ∧ algebraic_ScoresIdeal_ScoresReferenceIdeal_pre_first_nodes (hScoresIdeal := hScoresIdeal) (hScoresReferenceIdeal := hScoresReferenceIdeal) (hPre_first_nodes := hPre_first_nodes)
-- ==== Pre_first_nodes.lean ====
abbrev S31200x128 : Shape := ⟨2, ![31200, 128]⟩
abbrev S8x1 : Shape := ⟨2, ![8, 1]⟩
abbrev S1 : Shape := ⟨1, ![1]⟩
abbrev S1x8 : Shape := ⟨2, ![1, 8]⟩

class Facts : Prop where

variable [Facts]

def fn {F : FTy → Type} [FloatOps F] (main_arg0 : FVec F S31200x128 .f32) (main_arg1 : FVec F S31200x128 .f32) (main_arg2 : FVec F S8x1 .f32) (main_arg3 : FVec F S1 .f32) (main_arg4 : IVec S1x8 32) : IVec S1x8 1 :=
  let main_v0 : IVec S1x8 32 := iotaInDim S1x8 32 1
  let main_v1 : IVec S1x8 1 := cmpi .eq main_arg4 main_v0
  main_v1
-- ==== Pre_node_numbers.lean ====
abbrev S31200x128 : Shape := ⟨2, ![31200, 128]⟩
abbrev S64x12x32 : Shape := ⟨3, ![64, 12, 32]⟩
abbrev S128x128 : Shape := ⟨2, ![128, 128]⟩
abbrev S128 : Shape := ⟨1, ![128]⟩
abbrev S_ : Shape := ⟨0, ![]⟩

class Facts : Prop where
  bcast_S_S64x12x32 : S_.BroadcastsInDim S64x12x32 (![] : Fin 0 → Fin S64x12x32.rank)

variable [Facts]

def fn {F : FTy → Type} [FloatOps F] (main_arg0 : FVec F S31200x128 .f32) (main_arg1 : FVec F S31200x128 .f32) (main_arg2 : FVec F S31200x128 .f32) (main_arg3 : FVec F S64x12x32 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128x128 .f32) (main_arg15 : FVec F S128 .f32) : IVec S64x12x32 1 :=
  let main_v0 : IVec S64x12x32 32 := fptosi 32 main_arg3
  let main_v1 : FVec F S64x12x32 .f32 := sitofp .f32 main_v0
  let main_v2 : IVec S64x12x32 1 := cmpf .oeq main_v1 main_arg3
  let main_c : IVec S_ 32 := constantI S_ 32 0#32
  let main_v3 : IVec S64x12x32 32 := broadcastInDim S64x12x32 ![] bcast_S_S64x12x32 main_c
  let main_v4 : IVec S64x12x32 1 := cmpi .sge main_v0 main_v3
  let main_c_0 : IVec S_ 32 := constantI S_ 32 325#32
  let main_v5 : IVec S64x12x32 32 := broadcastInDim S64x12x32 ![] bcast_S_S64x12x32 main_c_0
  let main_v6 : IVec S64x12x32 1 := cmpi .slt main_v0 main_v5
  let main_v7 : IVec S64x12x32 1 := andi main_v4 main_v6
  let main_v8 : IVec S64x12x32 1 := andi main_v2 main_v7
  main_v8
-- ==== Kernel.lean ====
abbrev S31200x128 : Shape := ⟨2, ![31200, 128]⟩
abbrev S64x12x32 : Shape := ⟨3, ![64, 12, 32]⟩
abbrev S128x128 : Shape := ⟨2, ![128, 128]⟩
abbrev S128 : Shape := ⟨1, ![128]⟩
abbrev S96x325x128 : Shape := ⟨3, ![96, 325, 128]⟩
abbrev S8x8x12x32 : Shape := ⟨4, ![8, 8, 12, 32]⟩
abbrev S8x12x32x8 : Shape := ⟨4, ![8, 12, 32, 8]⟩
abbrev S96x32x8 : Shape := ⟨3, ![96, 32, 8]⟩
abbrev S1x128 : Shape := ⟨2, ![1, 128]⟩
abbrev S96x325x32 : Shape := ⟨3, ![96, 325, 32]⟩
abbrev S96x32x128 : Shape := ⟨3, ![96, 32, 128]⟩
abbrev S1x325x128 : Shape := ⟨3, ![1, 325, 128]⟩
abbrev S1x32x8 : Shape := ⟨3, ![1, 32, 8]⟩
abbrev S1x325x32 : Shape := ⟨3, ![1, 325, 32]⟩
abbrev S1x32x128 : Shape := ⟨3, ![1, 32, 128]⟩
abbrev S325x128 : Shape := ⟨2, ![325, 128]⟩
abbrev S32x325 : Shape := ⟨2, ![32, 325]⟩
abbrev S1x32x1 : Shape := ⟨3, ![1, 32, 1]⟩
abbrev S32x1 : Shape := ⟨2, ![32, 1]⟩
abbrev S325x16 : Shape := ⟨2, ![325, 16]⟩
abbrev S32x16 : Shape := ⟨2, ![32, 16]⟩
abbrev S32 : Shape := ⟨1, ![32]⟩
abbrev S32x128 : Shape := ⟨2, ![32, 128]⟩
abbrev S325x32 : Shape := ⟨2, ![325, 32]⟩
abbrev S325 : Shape := ⟨1, ![325]⟩
abbrev S325x1 : Shape := ⟨2, ![325, 1]⟩

abbrev nBuf : Space → Nat
  | .hbm => 32
  | .vmem => 26
  | .smem => 0
  | _ => 0

abbrev bufTy : (tb : Table) → Fin (tcTables nBuf tb) → BufTy
  | .hbm, ⟨0, _⟩ => ⟨S31200x128, .f32⟩
  | .hbm, ⟨1, _⟩ => ⟨S31200x128, .f32⟩
  | .hbm, ⟨2, _⟩ => ⟨S31200x128, .f32⟩
  | .hbm, ⟨3, _⟩ => ⟨S64x12x32, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S96x325x128, .f32⟩
  | .hbm, ⟨17, _⟩ => ⟨S96x325x128, .f32⟩
  | .hbm, ⟨18, _⟩ => ⟨S96x325x128, .f32⟩
  | .hbm, ⟨19, _⟩ => ⟨S8x8x12x32, .f32⟩
  | .hbm, ⟨20, _⟩ => ⟨S8x12x32x8, .f32⟩
  | .hbm, ⟨21, _⟩ => ⟨S96x32x8, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S96x325x128, .f32⟩
  | .hbm, ⟨30, _⟩ => ⟨S96x325x32, .f32⟩
  | .hbm, ⟨31, _⟩ => ⟨S96x32x128, .f32⟩
  | .local _ .vmem, ⟨0, _⟩ => ⟨S1x325x128, .f32⟩
  | .local _ .vmem, ⟨1, _⟩ => ⟨S1x325x128, .f32⟩
  | .local _ .vmem, ⟨2, _⟩ => ⟨S1x325x128, .f32⟩
  | .local _ .vmem, ⟨3, _⟩ => ⟨S1x325x128, .f32⟩
  | .local _ .vmem, ⟨4, _⟩ => ⟨S1x325x128, .f32⟩
  | .local _ .vmem, ⟨5, _⟩ => ⟨S1x325x128, .f32⟩
  | .local _ .vmem, ⟨6, _⟩ => ⟨S1x32x8, .f32⟩
  | .local _ .vmem, ⟨7, _⟩ => ⟨S1x32x8, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S1x325x128, .f32⟩
  | .local _ .vmem, ⟨21, _⟩ => ⟨S1x325x128, .f32⟩
  | .local _ .vmem, ⟨22, _⟩ => ⟨S1x325x32, .f32⟩
  | .local _ .vmem, ⟨23, _⟩ => ⟨S1x325x32, .f32⟩
  | .local _ .vmem, ⟨24, _⟩ => ⟨S1x32x128, .f32⟩
  | .local _ .vmem, ⟨25, _⟩ => ⟨S1x32x128, .f32⟩
  | _, _ => ⟨S31200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x325x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x325x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x325x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x325x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x325x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x32x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S31200x128 : Shape := ⟨2, ![31200, 128]⟩
abbrev S64x12x32 : Shape := ⟨3, ![64, 12, 32]⟩
abbrev S128x128 : Shape := ⟨2, ![128, 128]⟩
abbrev S128 : Shape := ⟨1, ![128]⟩
abbrev S8x12x325x128 : Shape := ⟨4, ![8, 12, 325, 128]⟩
abbrev S8x12x325x16 : Shape := ⟨4, ![8, 12, 325, 16]⟩
abbrev S64x12x325x16 : Shape := ⟨4, ![64, 12, 325, 16]⟩
abbrev S64 : Shape := ⟨1, ![64]⟩
abbrev S64x1x1 : Shape := ⟨3, ![64, 1, 1]⟩
abbrev S12 : Shape := ⟨1, ![12]⟩
abbrev S1x12x1 : Shape := ⟨3, ![1, 12, 1]⟩
abbrev S_ : Shape := ⟨0, ![]⟩
abbrev S64x12x32x1 : Shape := ⟨4, ![64, 12, 32, 1]⟩
abbrev S64x12x32x3 : Shape := ⟨4, ![64, 12, 32, 3]⟩
abbrev S64x12x32x16 : Shape := ⟨4, ![64, 12, 32, 16]⟩
abbrev S64x12x32x325 : Shape := ⟨4, ![64, 12, 32, 325]⟩
abbrev S8x12x32x16 : Shape := ⟨4, ![8, 12, 32, 16]⟩
abbrev S8x12x32x128 : Shape := ⟨4, ![8, 12, 32, 128]⟩
abbrev S8x12x325x32 : Shape := ⟨4, ![8, 12, 325, 32]⟩
abbrev S8x12x325 : Shape := ⟨3, ![8, 12, 325]⟩
abbrev S8x12x325x1 : Shape := ⟨4, ![8, 12, 325, 1]⟩
abbrev S1x1x1x128 : Shape := ⟨4, ![1, 1, 1, 128]⟩
abbrev S64x12x325x32 : Shape := ⟨4, ![64, 12, 325, 32]⟩
abbrev S64x12x325 : Shape := ⟨3, ![64, 12, 325]⟩
abbrev S64x12x325x1 : Shape := ⟨4, ![64, 12, 325, 1]⟩
abbrev S96x325x128 : Shape := ⟨3, ![96, 325, 128]⟩
abbrev S96x325x32 : Shape := ⟨3, ![96, 325, 32]⟩
abbrev S96x32x128 : Shape := ⟨3, ![96, 32, 128]⟩

abbrev nBuf : Space → Nat
  | .hbm => 326
  | .vmem => 0
  | .smem => 0
  | _ => 0

abbrev hbmTy0_0 (i : Nat) : BufTy := match i % 128 with
  | 0 => ⟨S31200x128, .f32⟩
  | 1 => ⟨S31200x128, .f32⟩
  | 2 => ⟨S31200x128, .f32⟩
  | 3 => ⟨S64x12x32, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S8x12x325x128, .f32⟩
  | 17 => ⟨S8x12x325x128, .f32⟩
  | 18 => ⟨S8x12x325x128, .f32⟩
  | 19 => ⟨S64x12x32, .i32⟩
  | 20 => ⟨S8x12x325x16, .f32⟩
  | 21 => ⟨S8x12x325x16, .f32⟩
  | 22 => ⟨S8x12x325x16, .f32⟩
  | 23 => ⟨S8x12x325x16, .f32⟩
  | 24 => ⟨S8x12x325x16, .f32⟩
  | 25 => ⟨S8x12x325x16, .f32⟩
  | 26 => ⟨S8x12x325x16, .f32⟩
  | 27 => ⟨S8x12x325x16, .f32⟩
  | 28 => ⟨S64x12x325x16, .f32⟩
  | 29 => ⟨S8x12x325x16, .f32⟩
  | 30 => ⟨S8x12x325x16, .f32⟩
  | 31 => ⟨S8x12x325x16, .f32⟩
  | 32 => ⟨S8x12x325x16, .f32⟩
  | 33 => ⟨S8x12x325x16, .f32⟩
  | 34 => ⟨S8x12x325x16, .f32⟩
  | 35 => ⟨S8x12x325x16, .f32⟩
  | 36 => ⟨S8x12x325x16, .f32⟩
  | 37 => ⟨S64x12x325x16, .f32⟩
  | 38 => ⟨S8x12x325x16, .f32⟩
  | 39 => ⟨S8x12x325x16, .f32⟩
  | 40 => ⟨S8x12x325x16, .f32⟩
  | 41 => ⟨S8x12x325x16, .f32⟩
  | 42 => ⟨S8x12x325x16, .f32⟩
  | 43 => ⟨S8x12x325x16, .f32⟩
  | 44 => ⟨S8x12x325x16, .f32⟩
  | 45 => ⟨S8x12x325x16, .f32⟩
  | 46 => ⟨S64x12x325x16, .f32⟩
  | 47 => ⟨S64, .i32⟩
  | 48 => ⟨S64x1x1, .i32⟩
  | 49 => ⟨S12, .i32⟩
  | 50 => ⟨S1x12x1, .i32⟩
  | 51 => ⟨S_, .i32⟩
  | 52 => ⟨S64x1x1, .i32⟩
  | 53 => ⟨S64x1x1, .i1⟩
  | 54 => ⟨S_, .i32⟩
  | 55 => ⟨S64x1x1, .i32⟩
  | 56 => ⟨S64x1x1, .i32⟩
  | 57 => ⟨S64x1x1, .i32⟩
  | 58 => ⟨S_, .i32⟩
  | 59 => ⟨S1x12x1, .i32⟩
  | 60 => ⟨S1x12x1, .i1⟩
  | 61 => ⟨S_, .i32⟩
  | 62 => ⟨S1x12x1, .i32⟩
  | 63 => ⟨S1x12x1, .i32⟩
  | 64 => ⟨S1x12x1, .i32⟩
  | 65 => ⟨S_, .i32⟩
  | 66 => ⟨S64x12x32, .i32⟩
  | 67 => ⟨S64x12x32, .i1⟩
  | 68 => ⟨S_, .i32⟩
  | 69 => ⟨S64x12x32, .i32⟩
  | 70 => ⟨S64x12x32, .i32⟩
  | 71 => ⟨S64x12x32, .i32⟩
  | 72 => ⟨S64x12x32, .i32⟩
  | 73 => ⟨S64x12x32, .i32⟩
  | 74 => ⟨S64x12x32x1, .i32⟩
  | 75 => ⟨S64x12x32x1, .i32⟩
  | 76 => ⟨S64x12x32x1, .i32⟩
  | 77 => ⟨S64x12x32x3, .i32⟩
  | 78 => ⟨S64x12x32x16, .f32⟩
  | 79 => ⟨S64x12x32x325, .f32⟩
  | 80 => ⟨S_, .f32⟩
  | 81 => ⟨S64x12x32x325, .f32⟩
  | 82 => ⟨S64x12x32x325, .f32⟩
  | 83 => ⟨S_, .f32⟩
  | 84 => ⟨S64x12x32, .f32⟩
  | 85 => ⟨S_, .f32⟩
  | 86 => ⟨S64x12x32, .f32⟩
  | 87 => ⟨S64x12x32, .f32⟩
  | 88 => ⟨S64x12x32x1, .f32⟩
  | 89 => ⟨S64x12x32x325, .f32⟩
  | 90 => ⟨S64x12x32x325, .f32⟩
  | 91 => ⟨S64x12x32x325, .f32⟩
  | 92 => ⟨S_, .f32⟩
  | 93 => ⟨S64x12x32, .f32⟩
  | 94 => ⟨S64x12x32x1, .f32⟩
  | 95 => ⟨S64x12x32x325, .f32⟩
  | 96 => ⟨S64x12x32x325, .f32⟩
  | 97 => ⟨S64x12x32x16, .f32⟩
  | 98 => ⟨S8x12x32x16, .f32⟩
  | 99 => ⟨S8x12x32x16, .f32⟩
  | 100 => ⟨S8x12x32x16, .f32⟩
  | 101 => ⟨S8x12x32x16, .f32⟩
  | 102 => ⟨S8x12x32x16, .f32⟩
  | 103 => ⟨S8x12x32x16, .f32⟩
  | 104 => ⟨S8x12x32x16, .f32⟩
  | 105 => ⟨S8x12x32x16, .f32⟩
  | 106 => ⟨S8x12x32x128, .f32⟩
  | 107 => ⟨S8x12x32x16, .f32⟩
  | 108 => ⟨S8x12x32x16, .f32⟩
  | 109 => ⟨S8x12x32x16, .f32⟩
  | 110 => ⟨S8x12x32x16, .f32⟩
  | 111 => ⟨S8x12x32x16, .f32⟩
  | 112 => ⟨S8x12x32x16, .f32⟩
  | 113 => ⟨S8x12x32x16, .f32⟩
  | 114 => ⟨S8x12x32x16, .f32⟩
  | 115 => ⟨S8x12x32x128, .f32⟩
  | 116 => ⟨S_, .i32⟩
  | 117 => ⟨S64x1x1, .i32⟩
  | 118 => ⟨S64x1x1, .i1⟩
  | 119 => ⟨S_, .i32⟩
  | 120 => ⟨S64x1x1, .i32⟩
  | 121 => ⟨S64x1x1, .i32⟩
  | 122 => ⟨S64x1x1, .i32⟩
  | 123 => ⟨S_, .i32⟩
  | 124 => ⟨S1x12x1, .i32⟩
  | 125 => ⟨S1x12x1, .i1⟩
  | 126 => ⟨S_, .i32⟩
  | 127 => ⟨S1x12x1, .i32⟩
  | _ => ⟨S31200x128, .f32⟩

abbrev hbmTy0_1 (i : Nat) : BufTy := match i % 128 with
  | 0 => ⟨S1x12x1, .i32⟩
  | 1 => ⟨S1x12x1, .i32⟩
  | 2 => ⟨S_, .i32⟩
  | 3 => ⟨S64x12x32, .i32⟩
  | 4 => ⟨S64x12x32, .i1⟩
  | 5 => ⟨S_, .i32⟩
  | 6 => ⟨S64x12x32, .i32⟩
  | 7 => ⟨S64x12x32, .i32⟩
  | 8 => ⟨S64x12x32, .i32⟩
  | 9 => ⟨S64x12x32, .i32⟩
  | 10 => ⟨S64x12x32, .i32⟩
  | 11 => ⟨S64x12x32x1, .i32⟩
  | 12 => ⟨S64x12x32x1, .i32⟩
  | 13 => ⟨S64x12x32x1, .i32⟩
  | 14 => ⟨S64x12x32x3, .i32⟩
  | 15 => ⟨S64x12x32x16, .f32⟩
  | 16 => ⟨S8x12x32x16, .f32⟩
  | 17 => ⟨S8x12x32x16, .f32⟩
  | 18 => ⟨S8x12x32x16, .f32⟩
  | 19 => ⟨S8x12x32x16, .f32⟩
  | 20 => ⟨S8x12x32x16, .f32⟩
  | 21 => ⟨S8x12x32x16, .f32⟩
  | 22 => ⟨S8x12x32x16, .f32⟩
  | 23 => ⟨S8x12x32x16, .f32⟩
  | 24 => ⟨S8x12x32x128, .f32⟩
  | 25 => ⟨S8x12x325x32, .f32⟩
  | 26 => ⟨S_, .f32⟩
  | 27 => ⟨S8x12x325x32, .f32⟩
  | 28 => ⟨S8x12x325x32, .f32⟩
  | 29 => ⟨S_, .f32⟩
  | 30 => ⟨S8x12x325, .f32⟩
  | 31 => ⟨S_, .f32⟩
  | 32 => ⟨S8x12x325, .f32⟩
  | 33 => ⟨S8x12x325, .f32⟩
  | 34 => ⟨S8x12x325x1, .f32⟩
  | 35 => ⟨S8x12x325x32, .f32⟩
  | 36 => ⟨S8x12x325x32, .f32⟩
  | 37 => ⟨S8x12x325x32, .f32⟩
  | 38 => ⟨S_, .f32⟩
  | 39 => ⟨S8x12x325, .f32⟩
  | 40 => ⟨S8x12x325x1, .f32⟩
  | 41 => ⟨S8x12x325x32, .f32⟩
  | 42 => ⟨S8x12x325x32, .f32⟩
  | 43 => ⟨S8x12x32x128, .f32⟩
  | 44 => ⟨S1x1x1x128, .f32⟩
  | 45 => ⟨S8x12x32x128, .f32⟩
  | 46 => ⟨S8x12x32x128, .f32⟩
  | 47 => ⟨S8x12x32x16, .f32⟩
  | 48 => ⟨S8x12x32x16, .f32⟩
  | 49 => ⟨S8x12x32x16, .f32⟩
  | 50 => ⟨S8x12x32x16, .f32⟩
  | 51 => ⟨S8x12x32x16, .f32⟩
  | 52 => ⟨S8x12x32x16, .f32⟩
  | 53 => ⟨S8x12x32x16, .f32⟩
  | 54 => ⟨S8x12x32x16, .f32⟩
  | 55 => ⟨S64x12x32x16, .f32⟩
  | 56 => ⟨S8x12x32x128, .f32⟩
  | 57 => ⟨S1x1x1x128, .f32⟩
  | 58 => ⟨S8x12x32x128, .f32⟩
  | 59 => ⟨S8x12x32x128, .f32⟩
  | 60 => ⟨S8x12x32x16, .f32⟩
  | 61 => ⟨S8x12x32x16, .f32⟩
  | 62 => ⟨S8x12x32x16, .f32⟩
  | 63 => ⟨S8x12x32x16, .f32⟩
  | 64 => ⟨S8x12x32x16, .f32⟩
  | 65 => ⟨S8x12x32x16, .f32⟩
  | 66 => ⟨S8x12x32x16, .f32⟩
  | 67 => ⟨S8x12x32x16, .f32⟩
  | 68 => ⟨S64x12x32x16, .f32⟩
  | 69 => ⟨S64x12x325x32, .f32⟩
  | 70 => ⟨S_, .f32⟩
  | 71 => ⟨S64x12x325x32, .f32⟩
  | 72 => ⟨S64x12x325x32, .f32⟩
  | 73 => ⟨S_, .f32⟩
  | 74 => ⟨S64x12x325, .f32⟩
  | 75 => ⟨S_, .f32⟩
  | 76 => ⟨S64x12x325, .f32⟩
  | 77 => ⟨S64x12x325, .f32⟩
  | 78 => ⟨S64x12x325x1, .f32⟩
  | 79 => ⟨S64x12x325x32, .f32⟩
  | 80 => ⟨S64x12x325x32, .f32⟩
  | 81 => ⟨S64x12x325x32, .f32⟩
  | 82 => ⟨S_, .f32⟩
  | 83 => ⟨S64x12x325, .f32⟩
  | 84 => ⟨S64x12x325x1, .f32⟩
  | 85 => ⟨S64x12x325x32, .f32⟩
  | 86 => ⟨S64x12x325x32, .f32⟩
  | 87 => ⟨S64x12x325x16, .f32⟩
  | 88 => ⟨S8x12x325x16, .f32⟩
  | 89 => ⟨S8x12x325x16, .f32⟩
  | 90 => ⟨S8x12x325x16, .f32⟩
  | 91 => ⟨S8x12x325x16, .f32⟩
  | 92 => ⟨S8x12x325x16, .f32⟩
  | 93 => ⟨S8x12x325x16, .f32⟩
  | 94 => ⟨S8x12x325x16, .f32⟩
  | 95 => ⟨S8x12x325x16, .f32⟩
  | 96 => ⟨S8x12x325x128, .f32⟩
  | 97 => ⟨S8x12x325x128, .f32⟩
  | 98 => ⟨S1x1x1x128, .f32⟩
  | 99 => ⟨S8x12x325x128, .f32⟩
  | 100 => ⟨S8x12x325x128, .f32⟩
  | 101 => ⟨S_, .f32⟩
  | 102 => ⟨S8x12x325, .f32⟩
  | 103 => ⟨S8x12x325x1, .f32⟩
  | 104 => ⟨S_, .f32⟩
  | 105 => ⟨S8x12x325x1, .f32⟩
  | 106 => ⟨S8x12x325x1, .f32⟩
  | 107 => ⟨S_, .i32⟩
  | 108 => ⟨S_, .f32⟩
  | 109 => ⟨S8x12x325, .f32⟩
  | 110 => ⟨S8x12x325x1, .f32⟩
  | 111 => ⟨S_, .f32⟩
  | 112 => ⟨S8x12x325x1, .f32⟩
  | 113 => ⟨S8x12x325x1, .f32⟩
  | 114 => ⟨S8x12x325x128, .f32⟩
  | 115 => ⟨S8x12x325x128, .f32⟩
  | 116 => ⟨S8x12x325x128, .f32⟩
  | 117 => ⟨S_, .f32⟩
  | 118 => ⟨S_, .f32⟩
  | 119 => ⟨S_, .f32⟩
  | 120 => ⟨S_, .f32⟩
  | 121 => ⟨S8x12x325, .f32⟩
  | 122 => ⟨S8x12x325x1, .f32⟩
  | 123 => ⟨S8x12x325x1, .f32⟩
  | 124 => ⟨S8x12x325x1, .f32⟩
  | 125 => ⟨S_, .f32⟩
  | 126 => ⟨S_, .i1⟩
  | 127 => ⟨S_, .f32⟩
  | _ => ⟨S31200x128, .f32⟩

abbrev hbmTy0_2 (i : Nat) : BufTy := match i % 128 with
  | 0 => ⟨S_, .f32⟩
  | 1 => ⟨S8x12x325x1, .f32⟩
  | 2 => ⟨S8x12x325x1, .f32⟩
  | 3 => ⟨S8x12x325x128, .f32⟩
  | 4 => ⟨S8x12x325x128, .f32⟩
  | 5 => ⟨S_, .f32⟩
  | 6 => ⟨S8x12x325x1, .f32⟩
  | 7 => ⟨S8x12x325x1, .f32⟩
  | 8 => ⟨S8x12x325x1, .f32⟩
  | 9 => ⟨S8x12x325x128, .f32⟩
  | 10 => ⟨S8x12x325x128, .f32⟩
  | 11 => ⟨S1x1x1x128, .f32⟩
  | 12 => ⟨S8x12x325x128, .f32⟩
  | 13 => ⟨S8x12x325x128, .f32⟩
  | 14 => ⟨S1x1x1x128, .f32⟩
  | 15 => ⟨S8x12x325x128, .f32⟩
  | 16 => ⟨S8x12x325x128, .f32⟩
  | 17 => ⟨S8x12x325x128, .f32⟩
  | 18 => ⟨S1x1x1x128, .f32⟩
  | 19 => ⟨S8x12x325x128, .f32⟩
  | 20 => ⟨S8x12x325x128, .f32⟩
  | 21 => ⟨S_, .f32⟩
  | 22 => ⟨S8x12x325x128, .f32⟩
  | 23 => ⟨S8x12x325x128, .f32⟩
  | 24 => ⟨S8x12x325x128, .f32⟩
  | 25 => ⟨S1x1x1x128, .f32⟩
  | 26 => ⟨S8x12x325x128, .f32⟩
  | 27 => ⟨S8x12x325x128, .f32⟩
  | 28 => ⟨S8x12x325x128, .f32⟩
  | 29 => ⟨S_, .f32⟩
  | 30 => ⟨S8x12x325, .f32⟩
  | 31 => ⟨S8x12x325x1, .f32⟩
  | 32 => ⟨S_, .f32⟩
  | 33 => ⟨S8x12x325x1, .f32⟩
  | 34 => ⟨S8x12x325x1, .f32⟩
  | 35 => ⟨S_, .i32⟩
  | 36 => ⟨S_, .f32⟩
  | 37 => ⟨S8x12x325, .f32⟩
  | 38 => ⟨S8x12x325x1, .f32⟩
  | 39 => ⟨S_, .f32⟩
  | 40 => ⟨S8x12x325x1, .f32⟩
  | 41 => ⟨S8x12x325x1, .f32⟩
  | 42 => ⟨S8x12x325x128, .f32⟩
  | 43 => ⟨S8x12x325x128, .f32⟩
  | 44 => ⟨S8x12x325x128, .f32⟩
  | 45 => ⟨S_, .f32⟩
  | 46 => ⟨S_, .f32⟩
  | 47 => ⟨S_, .f32⟩
  | 48 => ⟨S_, .f32⟩
  | 49 => ⟨S8x12x325, .f32⟩
  | 50 => ⟨S8x12x325x1, .f32⟩
  | 51 => ⟨S8x12x325x1, .f32⟩
  | 52 => ⟨S8x12x325x1, .f32⟩
  | 53 => ⟨S_, .f32⟩
  | 54 => ⟨S_, .i1⟩
  | 55 => ⟨S_, .f32⟩
  | 56 => ⟨S_, .f32⟩
  | 57 => ⟨S8x12x325x1, .f32⟩
  | 58 => ⟨S8x12x325x1, .f32⟩
  | 59 => ⟨S8x12x325x128, .f32⟩
  | 60 => ⟨S8x12x325x128, .f32⟩
  | 61 => ⟨S_, .f32⟩
  | 62 => ⟨S8x12x325x1, .f32⟩
  | 63 => ⟨S8x12x325x1, .f32⟩
  | 64 => ⟨S8x12x325x1, .f32⟩
  | 65 => ⟨S8x12x325x128, .f32⟩
  | 66 => ⟨S8x12x325x128, .f32⟩
  | 67 => ⟨S96x325x128, .f32⟩
  | 68 => ⟨S96x325x32, .f32⟩
  | 69 => ⟨S96x32x128, .f32⟩
  | _ => ⟨S31200x128, .f32⟩

abbrev hbmTy (i : Nat) : BufTy := match i / 128 with
  | 0 => hbmTy0_0 i
  | 1 => hbmTy0_1 i
  | 2 => hbmTy0_2 i
  | _ => ⟨S31200x128, .f32⟩

abbrev bufTy : (tb : Table) → Fin (tcTables nBuf tb) → BufTy
  | .hbm, ⟨i, _⟩ => hbmTy i
  | _, _ => ⟨S31200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_v35 : Ref sig .tc := ⟨.hbm, 52, rfl⟩
abbrev main_v36 : Ref sig .tc := ⟨.hbm, 53, rfl⟩
abbrev main_c_0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_1 : Ref sig .tc := ⟨.hbm, 58, rfl⟩
abbrev main_v40 : Ref sig .tc := ⟨.hbm, 59, rfl⟩
abbrev main_v41 : Ref sig .tc := ⟨.hbm, 60, rfl⟩
abbrev main_c_2 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_3 : Ref sig .tc := ⟨.hbm, 65, rfl⟩
abbrev main_v45 : Ref sig .tc := ⟨.hbm, 66, rfl⟩
abbrev main_v46 : Ref sig .tc := ⟨.hbm, 67, rfl⟩
abbrev main_c_4 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst : Ref sig .tc := ⟨.hbm, 80, rfl⟩
abbrev main_v58 : Ref sig .tc := ⟨.hbm, 81, rfl⟩
abbrev main_v59 : Ref sig .tc := ⟨.hbm, 82, rfl⟩
abbrev main_cst_5 : Ref sig .tc := ⟨.hbm, 83, rfl⟩
abbrev main_v60 : Ref sig .tc := ⟨.hbm, 84, rfl⟩
abbrev main_cst_6 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_8 : Ref sig .tc := ⟨.hbm, 116, rfl⟩
abbrev main_v90 : Ref sig .tc := ⟨.hbm, 117, rfl⟩
abbrev main_v91 : Ref sig .tc := ⟨.hbm, 118, rfl⟩
abbrev main_c_9 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_c_10 : Ref sig .tc := ⟨.hbm, 123, rfl⟩
abbrev main_v95 : Ref sig .tc := ⟨.hbm, 124, rfl⟩
abbrev main_v96 : Ref sig .tc := ⟨.hbm, 125, rfl⟩
abbrev main_c_11 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_c_12 : Ref sig .tc := ⟨.hbm, 130, rfl⟩
abbrev main_v100 : Ref sig .tc := ⟨.hbm, 131, rfl⟩
abbrev main_v101 : Ref sig .tc := ⟨.hbm, 132, rfl⟩
abbrev main_c_13 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_14 : Ref sig .tc := ⟨.hbm, 154, rfl⟩
abbrev main_v122 : Ref sig .tc := ⟨.hbm, 155, rfl⟩
abbrev main_v123 : Ref sig .tc := ⟨.hbm, 156, rfl⟩
abbrev main_cst_15 : Ref sig .tc := ⟨.hbm, 157, rfl⟩
abbrev main_v124 : Ref sig .tc := ⟨.hbm, 158, rfl⟩
abbrev main_cst_16 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_17 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_18 : Ref sig .tc := ⟨.hbm, 198, rfl⟩
abbrev main_v162 : Ref sig .tc := ⟨.hbm, 199, rfl⟩
abbrev main_v163 : Ref sig .tc := ⟨.hbm, 200, rfl⟩
abbrev main_cst_19 : Ref sig .tc := ⟨.hbm, 201, rfl⟩
abbrev main_v164 : Ref sig .tc := ⟨.hbm, 202, rfl⟩
abbrev main_cst_20 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_cst_21 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_cst_22 : Ref sig .tc := ⟨.hbm, 229, rfl⟩
abbrev main_v189 : Ref sig .tc := ⟨.hbm, 230, rfl⟩
abbrev main_v190 : Ref sig .tc := ⟨.hbm, 231, rfl⟩
abbrev main_cst_23 : Ref sig .tc := ⟨.hbm, 232, rfl⟩
abbrev main_v191 : Ref sig .tc := ⟨.hbm, 233, rfl⟩
abbrev main_v192 : Ref sig .tc := ⟨.hbm, 234, rfl⟩
abbrev main_c_24 : Ref sig .tc := ⟨.hbm, 235, rfl⟩
abbrev main_call0_cst : Ref sig .tc := ⟨.hbm, 236, rfl⟩
abbrev main_call0_v0 : Ref sig .tc := ⟨.hbm, 237, rfl⟩
abbrev main_call0_v1 : Ref sig .tc := ⟨.hbm, 238, rfl⟩
abbrev main_call0_cst_0 : Ref sig .tc := ⟨.hbm, 239, rfl⟩
abbrev main_call0_v2 : Ref sig .tc := ⟨.hbm, 240, rfl⟩
abbrev main_call0_v3 : Ref sig .tc := ⟨.hbm, 241, rfl⟩
abbrev main_call0_v4 : Ref sig .tc := ⟨.hbm, 242, rfl⟩
abbrev main_call0_v5 : Ref sig .tc := ⟨.hbm, 243, rfl⟩
abbrev main_call0_v6 : Ref sig .tc := ⟨.hbm, 244, rfl⟩
abbrev main_call0_v7 : Ref sig .tc := ⟨.hbm, 245, rfl⟩
abbrev main_call0_cst_1 : Ref sig .tc := ⟨.hbm, 246, rfl⟩
abbrev main_call0_v8 : Ref sig .tc := ⟨.hbm, 247, rfl⟩
abbrev main_call0_cst_2 : Ref sig .tc := ⟨.hbm, 248, rfl⟩
abbrev main_call0_v9 : Ref sig .tc := ⟨.hbm, 249, rfl⟩
abbrev main_call0_v10 : Ref sig .tc := ⟨.hbm, 250, rfl⟩
abbrev main_call0_v11 : Ref sig .tc := ⟨.hbm, 251, rfl⟩
abbrev main_call0_v12 : Ref sig .tc := ⟨.hbm, 252, rfl⟩
abbrev main_call0_cst_3 : Ref sig .tc := ⟨.hbm, 253, rfl⟩
abbrev main_call0_v13 : Ref sig .tc := ⟨.hbm, 254, rfl⟩
abbrev main_call0_cst_4 : Ref sig .tc := ⟨.hbm, 255, rfl⟩
abbrev main_call0_call0_v0 : Ref sig .tc := ⟨.hbm, 256, rfl⟩
abbrev main_call0_call0_v1 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_25 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_call1_cst : Ref sig .tc := ⟨.hbm, 277, rfl⟩
abbrev main_call1_v0 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_cst_26 : Ref sig .tc := ⟨.hbm, 285, rfl⟩
abbrev main_v217 : Ref sig .tc := ⟨.hbm, 286, rfl⟩
abbrev main_v218 : Ref sig .tc := ⟨.hbm, 287, rfl⟩
abbrev main_cst_27 : Ref sig .tc := ⟨.hbm, 288, rfl⟩
abbrev main_v219 : Ref sig .tc := ⟨.hbm, 289, rfl⟩
abbrev main_v220 : Ref sig .tc := ⟨.hbm, 290, rfl⟩
abbrev main_c_28 : Ref sig .tc := ⟨.hbm, 291, rfl⟩
abbrev main_call2_cst : Ref sig .tc := ⟨.hbm, 292, rfl⟩
abbrev main_call2_v0 : Ref sig .tc := ⟨.hbm, 293, rfl⟩
abbrev main_call2_v1 : Ref sig .tc := ⟨.hbm, 294, rfl⟩
abbrev main_call2_cst_0 : Ref sig .tc := ⟨.hbm, 295, rfl⟩
abbrev main_call2_v2 : Ref sig .tc := ⟨.hbm, 296, rfl⟩
abbrev main_call2_v3 : Ref sig .tc := ⟨.hbm, 297, rfl⟩
abbrev main_call2_v4 : Ref sig .tc := ⟨.hbm, 298, rfl⟩
abbrev main_call2_v5 : Ref sig .tc := ⟨.hbm, 299, rfl⟩
abbrev main_call2_v6 : Ref sig .tc := ⟨.hbm, 300, rfl⟩
abbrev main_call2_v7 : Ref sig .tc := ⟨.hbm, 301, rfl⟩
abbrev main_call2_cst_1 : Ref sig .tc := ⟨.hbm, 302, rfl⟩
abbrev main_call2_v8 : Ref sig .tc := ⟨.hbm, 303, rfl⟩
abbrev main_call2_cst_2 : Ref sig .tc := ⟨.hbm, 304, rfl⟩
abbrev main_call2_v9 : Ref sig .tc := ⟨.hbm, 305, rfl⟩
abbrev main_call2_v10 : Ref sig .tc := ⟨.hbm, 306, rfl⟩
abbrev main_call2_v11 : Ref sig .tc := ⟨.hbm, 307, rfl⟩
abbrev main_call2_v12 : Ref sig .tc := ⟨.hbm, 308, rfl⟩
abbrev main_call2_cst_3 : Ref sig .tc := ⟨.hbm, 309, rfl⟩
abbrev main_call2_v13 : Ref sig .tc := ⟨.hbm, 310, rfl⟩
abbrev main_call2_cst_4 : Ref sig .tc := ⟨.hbm, 311, rfl⟩
abbrev main_call2_call0_v0 : Ref sig .tc := ⟨.hbm, 312, rfl⟩
abbrev main_call2_call0_v1 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_cst_29 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩

abbrev nD : Nat := 1
abbrev τ : Topo := Topo.v7x

variable {F : FTy → Type} [FloatOps F]
-- ==== Qkv.lean ====
abbrev S8x12x325x128 : Shape := ⟨4, ![8, 12, 325, 128]⟩
abbrev S128x128 : Shape := ⟨2, ![128, 128]⟩
abbrev S128 : Shape := ⟨1, ![128]⟩
abbrev S31200x128 : Shape := ⟨2, ![31200, 128]⟩
abbrev S1x128 : Shape := ⟨2, ![1, 128]⟩
abbrev S800x128 : Shape := ⟨2, ![800, 128]⟩

abbrev nBuf : Space → Nat
  | .hbm => 14
  | .vmem => 14
  | .smem => 0
  | _ => 0

abbrev bufTy : (tb : Table) → Fin (tcTables nBuf tb) → BufTy
  | .hbm, ⟨0, _⟩ => ⟨S8x12x325x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S31200x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S31200x128, .f32⟩
  | .hbm, ⟨12, _⟩ => ⟨S31200x128, .f32⟩
  | .hbm, ⟨13, _⟩ => ⟨S31200x128, .f32⟩
  | .local _ .vmem, ⟨0, _⟩ => ⟨S800x128, .f32⟩
  | .local _ .vmem, ⟨1, _⟩ => ⟨S800x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S800x128, .f32⟩
  | .local _ .vmem, ⟨9, _⟩ => ⟨S800x128, .f32⟩
  | .local _ .vmem, ⟨10, _⟩ => ⟨S800x128, .f32⟩
  | .local _ .vmem, ⟨11, _⟩ => ⟨S800x128, .f32⟩
  | .local _ .vmem, ⟨12, _⟩ => ⟨S800x128, .f32⟩
  | .local _ .vmem, ⟨13, _⟩ => ⟨S800x128, .f32⟩
  | _, _ => ⟨S8x12x325x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![39], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S800x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S800x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S800x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvReferenceIdeal.lean ====
abbrev S8x12x325x128 : Shape := ⟨4, ![8, 12, 325, 128]⟩
abbrev S128x128 : Shape := ⟨2, ![128, 128]⟩
abbrev S128 : Shape := ⟨1, ![128]⟩
abbrev S1x1x1x128 : Shape := ⟨4, ![1, 1, 1, 128]⟩
abbrev S31200x128 : Shape := ⟨2, ![31200, 128]⟩

abbrev nBuf : Space → Nat
  | .hbm => 22
  | .vmem => 0
  | .smem => 0
  | _ => 0

abbrev bufTy : (tb : Table) → Fin (tcTables nBuf tb) → BufTy
  | .hbm, ⟨0, _⟩ => ⟨S8x12x325x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S8x12x325x128, .f32⟩
  | .hbm, ⟨8, _⟩ => ⟨S1x1x1x128, .f32⟩
  | .hbm, ⟨9, _⟩ => ⟨S8x12x325x128, .f32⟩
  | .hbm, ⟨10, _⟩ => ⟨S8x12x325x128, .f32⟩
  | .hbm, ⟨11, _⟩ => ⟨S8x12x325x128, .f32⟩
  | .hbm, ⟨12, _⟩ => ⟨S1x1x1x128, .f32⟩
  | .hbm, ⟨13, _⟩ => ⟨S8x12x325x128, .f32⟩
  | .hbm, ⟨14, _⟩ => ⟨S8x12x325x128, .f32⟩
  | .hbm, ⟨15, _⟩ => ⟨S8x12x325x128, .f32⟩
  | .hbm, ⟨16, _⟩ => ⟨S1x1x1x128, .f32⟩
  | .hbm, ⟨17, _⟩ => ⟨S8x12x325x128, .f32⟩
  | .hbm, ⟨18, _⟩ => ⟨S8x12x325x128, .f32⟩
  | .hbm, ⟨19, _⟩ => ⟨S31200x128, .f32⟩
  | .hbm, ⟨20, _⟩ => ⟨S31200x128, .f32⟩
  | .hbm, ⟨21, _⟩ => ⟨S31200x128, .f32⟩
  | _, _ => ⟨S8x12x325x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Scores.lean ====
abbrev S31200x128 : Shape := ⟨2, ![31200, 128]⟩
abbrev S8x1 : Shape := ⟨2, ![8, 1]⟩
abbrev S1 : Shape := ⟨1, ![1]⟩
abbrev S1x8 : Shape := ⟨2, ![1, 8]⟩
abbrev S1024x64 : Shape := ⟨2, ![1024, 64]⟩
abbrev S96x325x128 : Shape := ⟨3, ![96, 325, 128]⟩
abbrev S96x325x8 : Shape := ⟨3, ![96, 325, 8]⟩
abbrev S1x325x128 : Shape := ⟨3, ![1, 325, 128]⟩
abbrev S1x8x128 : Shape := ⟨3, ![1, 8, 128]⟩
abbrev S1x325x8 : Shape := ⟨3, ![1, 325, 8]⟩
abbrev S325x128 : Shape := ⟨2, ![325, 128]⟩
abbrev S8x128 : Shape := ⟨2, ![8, 128]⟩
abbrev S1x128 : Shape := ⟨2, ![1, 128]⟩
abbrev S325x120 : Shape := ⟨2, ![325, 120]⟩
abbrev S325x8 : Shape := ⟨2, ![325, 8]⟩
abbrev S325x124 : Shape := ⟨2, ![325, 124]⟩
abbrev S325x4 : Shape := ⟨2, ![325, 4]⟩
abbrev S325x126 : Shape := ⟨2, ![325, 126]⟩
abbrev S325x2 : Shape := ⟨2, ![325, 2]⟩
abbrev S325x127 : Shape := ⟨2, ![325, 127]⟩
abbrev S325x1 : Shape := ⟨2, ![325, 1]⟩
abbrev S325x1024 : Shape := ⟨2, ![325, 1024]⟩
abbrev S325x64 : Shape := ⟨2, ![325, 64]⟩

abbrev nBuf : Space → Nat
  | .hbm => 9
  | .vmem => 9
  | .smem => 0
  | _ => 0

abbrev bufTy : (tb : Table) → Fin (tcTables nBuf tb) → BufTy
  | .hbm, ⟨0, _⟩ => ⟨S31200x128, .f32⟩
  | .hbm, ⟨1, _⟩ => ⟨S31200x128, .f32⟩
  | .hbm, ⟨2, _⟩ => ⟨S8x1, .f32⟩
  | .hbm, ⟨3, _⟩ => ⟨S1, .f32⟩
  | .hbm, ⟨4, _⟩ => ⟨S1x8, .i32⟩
  | .hbm, ⟨5, _⟩ => ⟨S1024x64, .f32⟩
  | .hbm, ⟨6, _⟩ => ⟨S96x325x128, .f32⟩
  | .hbm, ⟨7, _⟩ => ⟨S96x325x128, .f32⟩
  | .hbm, ⟨8, _⟩ => ⟨S96x325x8, .f32⟩
  | .local _ .vmem, ⟨0, _⟩ => ⟨S1x325x128, .f32⟩
  | .local _ .vmem, ⟨1, _⟩ => ⟨S1x325x128, .f32⟩
  | .local _ .vmem, ⟨2, _⟩ => ⟨S1x8x128, .f32⟩
  | .local _ .vmem, ⟨3, _⟩ => ⟨S1x8x128, .f32⟩
  | .local _ .vmem, ⟨4, _⟩ => ⟨S1024x64, .f32⟩
  | .local _ .vmem, ⟨5, _⟩ => ⟨S8x1, .f32⟩
  | .local _ .vmem, ⟨6, _⟩ => ⟨S1, .f32⟩
  | .local _ .vmem, ⟨7, _⟩ => ⟨S1x325x8, .f32⟩
  | .local _ .vmem, ⟨8, _⟩ => ⟨S1x325x8, .f32⟩
  | _, _ => ⟨S31200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x325x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x325x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScoresReferenceIdeal.lean ====
abbrev S31200x128 : Shape := ⟨2, ![31200, 128]⟩
abbrev S8x1 : Shape := ⟨2, ![8, 1]⟩
abbrev S1 : Shape := ⟨1, ![1]⟩
abbrev S1x8 : Shape := ⟨2, ![1, 8]⟩
abbrev S8x12x325x128 : Shape := ⟨4, ![8, 12, 325, 128]⟩
abbrev S8x12x325x16 : Shape := ⟨4, ![8, 12, 325, 16]⟩
abbrev S64x12x325x16 : Shape := ⟨4, ![64, 12, 325, 16]⟩
abbrev S325x8 : Shape := ⟨2, ![325, 8]⟩
abbrev S_ : Shape := ⟨0, ![]⟩
abbrev S325x8x1 : Shape := ⟨3, ![325, 8, 1]⟩
abbrev S64x12x325x8x16 : Shape := ⟨5, ![64, 12, 325, 8, 16]⟩
abbrev S64x12x325x8 : Shape := ⟨4, ![64, 12, 325, 8]⟩
abbrev S64x12x325x1 : Shape := ⟨4, ![64, 12, 325, 1]⟩
abbrev S1x1x1x1 : Shape := ⟨4, ![1, 1, 1, 1]⟩
abbrev S64x12x325 : Shape := ⟨3, ![64, 12, 325]⟩
abbrev S8x8x12x325 : Shape := ⟨4, ![8, 8, 12, 325]⟩
abbrev S8x12x325x8 : Shape := ⟨4, ![8, 12, 325, 8]⟩
abbrev S96x325x8 : Shape := ⟨3, ![96, 325, 8]⟩

abbrev nBuf : Space → Nat
  | .hbm => 44
  | .vmem => 0
  | .smem => 0
  | _ => 0

abbrev bufTy : (tb : Table) → Fin (tcTables nBuf tb) → BufTy
  | .hbm, ⟨0, _⟩ => ⟨S31200x128, .f32⟩
  | .hbm, ⟨1, _⟩ => ⟨S31200x128, .f32⟩
  | .hbm, ⟨2, _⟩ => ⟨S8x1, .f32⟩
  | .hbm, ⟨3, _⟩ => ⟨S1, .f32⟩
  | .hbm, ⟨4, _⟩ => ⟨S1x8, .i32⟩
  | .hbm, ⟨5, _⟩ => ⟨S8x12x325x128, .f32⟩
  | .hbm, ⟨6, _⟩ => ⟨S8x12x325x128, .f32⟩
  | .hbm, ⟨7, _⟩ => ⟨S8x12x325x16, .f32⟩
  | .hbm, ⟨8, _⟩ => ⟨S8x12x325x16, .f32⟩
  | .hbm, ⟨9, _⟩ => ⟨S8x12x325x16, .f32⟩
  | .hbm, ⟨10, _⟩ => ⟨S8x12x325x16, .f32⟩
  | .hbm, ⟨11, _⟩ => ⟨S8x12x325x16, .f32⟩
  | .hbm, ⟨12, _⟩ => ⟨S8x12x325x16, .f32⟩
  | .hbm, ⟨13, _⟩ => ⟨S8x12x325x16, .f32⟩
  | .hbm, ⟨14, _⟩ => ⟨S8x12x325x16, .f32⟩
  | .hbm, ⟨15, _⟩ => ⟨S64x12x325x16, .f32⟩
  | .hbm, ⟨16, _⟩ => ⟨S8x12x325x16, .f32⟩
  | .hbm, ⟨17, _⟩ => ⟨S8x12x325x16, .f32⟩
  | .hbm, ⟨18, _⟩ => ⟨S8x12x325x16, .f32⟩
  | .hbm, ⟨19, _⟩ => ⟨S8x12x325x16, .f32⟩
  | .hbm, ⟨20, _⟩ => ⟨S8x12x325x16, .f32⟩
  | .hbm, ⟨21, _⟩ => ⟨S8x12x325x16, .f32⟩
  | .hbm, ⟨22, _⟩ => ⟨S8x12x325x16, .f32⟩
  | .hbm, ⟨23, _⟩ => ⟨S8x12x325x16, .f32⟩
  | .hbm, ⟨24, _⟩ => ⟨S64x12x325x16, .f32⟩
  | .hbm, ⟨25, _⟩ => ⟨S325x8, .i32⟩
  | .hbm, ⟨26, _⟩ => ⟨S_, .i32⟩
  | .hbm, ⟨27, _⟩ => ⟨S325x8, .i32⟩
  | .hbm, ⟨28, _⟩ => ⟨S325x8, .i1⟩
  | .hbm, ⟨29, _⟩ => ⟨S_, .i32⟩
  | .hbm, ⟨30, _⟩ => ⟨S325x8, .i32⟩
  | .hbm, ⟨31, _⟩ => ⟨S325x8, .i32⟩
  | .hbm, ⟨32, _⟩ => ⟨S325x8, .i32⟩
  | .hbm, ⟨33, _⟩ => ⟨S325x8x1, .i32⟩
  | .hbm, ⟨34, _⟩ => ⟨S64x12x325x8x16, .f32⟩
  | .hbm, ⟨35, _⟩ => ⟨S64x12x325x8, .f32⟩
  | .hbm, ⟨36, _⟩ => ⟨S64x12x325x1, .f32⟩
  | .hbm, ⟨37, _⟩ => ⟨S1x1x1x1, .f32⟩
  | .hbm, ⟨38, _⟩ => ⟨S64x12x325x1, .f32⟩
  | .hbm, ⟨39, _⟩ => ⟨S64x12x325x1, .f32⟩
  | .hbm, ⟨40, _⟩ => ⟨S64x12x325, .f32⟩
  | .hbm, ⟨41, _⟩ => ⟨S8x8x12x325, .f32⟩
  | .hbm, ⟨42, _⟩ => ⟨S8x12x325x8, .f32⟩
  | .hbm, ⟨43, _⟩ => ⟨S96x325x8, .f32⟩
  | _, _ => ⟨S31200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Proof.Spec.lean ====
/- What one block (one batch entry at one time step) of the attention call computes, over plain functions. -/
module

public import Idealize.ShloMosaic.PureOps.Ideal.Laws

@[expose] public section

noncomputable section

namespace Cert.Attn

open Idealize.ShloMosaic

/-- The head a column belongs to: heads hold sixteen neighbouring columns. -/
def hd (c : Fin 128) : Fin 8 := ⟨c.val / 16, by omega⟩

/-- Column `d` of head `h`. -/
def col (h : Fin 8) (d : Fin 16) : Fin 128 := ⟨16 * h.val + d.val, by omega⟩

/-- The largest entry of a finite family, from minus infinity. -/
def top {n : ℕ} (f : Fin n → EReal) : EReal :=
  Finset.univ.fold max (Ideal.ofBits .f32 0xFF800000#32) f

/-- Softmax of a finite family, shifted by its largest entry. -/
def soft {n : ℕ} (f : Fin n → EReal) (j : Fin n) : EReal :=
  Ideal.div (Ideal.exp (f j - top f)) (∑ i, Ideal.exp (f i - top f))

/-- A score: a dot product over the square root of the head width. -/
def score {n : ℕ} (a b : Fin n → EReal) : EReal :=
  Ideal.div (∑ d, a d * b d) (Ideal.ofBits .f32 0x40800000#32)

/-- The affine map `x W + b`. -/
def lin {n : ℕ} (x : Fin n → Fin 128 → EReal) (W : Fin 128 → Fin 128 → EReal) (b : Fin 128 → EReal)
    (i : Fin n) (c : Fin 128) : EReal :=
  (∑ j, x i j * W j c) + b c

/-- The mean of a row. -/
def mean (f : Fin 128 → EReal) : EReal := Ideal.div (∑ j, f j) (Ideal.ofBits .f32 0x43000000#32)

/-- A row less its mean, over the root of its variance and a small constant. -/
def norm (f : Fin 128 → EReal) (c : Fin 128) : EReal :=
  Ideal.div (f c - mean f)
    (Ideal.sqrt (mean (fun j => (f j - mean f) * (f j - mean f)) + Ideal.ofBits .f32 0x3727C5AC#32))

/-- The rows a head's sampled nodes pick: row `s`, column `c` is the input at the node head `hd c` sampled. -/
def pick (x : Fin 325 → Fin 128 → EReal) (ix : Fin 32 → Fin 8 → Fin 325) (s : Fin 32) (c : Fin 128) : EReal :=
  x (ix s (hd c)) c

/-- The first attention: the sampled queries of each head against all keys, weighting all values. -/
def vals (q k v : Fin 325 → Fin 128 → EReal) (ix : Fin 32 → Fin 8 → Fin 325) (s : Fin 32) (c : Fin 128) : EReal :=
  ∑ n : Fin 325, soft (fun n => score (fun d => pick q ix s (col (hd c) d)) (fun d => k n (col (hd c) d))) n * v n c

/-- The sampling projector: every query against the sampled keys, all heads joined. -/
def proj (q k : Fin 325 → Fin 128 → EReal) (ix : Fin 32 → Fin 8 → Fin 325) (n : Fin 325) (s : Fin 32) : EReal :=
  soft (fun s => score (q n) (pick k ix s)) s

/-- The second attention: every query against `sk`, head by head, weighting `sv`. -/
def back (q : Fin 325 → Fin 128 → EReal) (sk sv : Fin 32 → Fin 128 → EReal) (n : Fin 325) (c : Fin 128) : EReal :=
  ∑ s : Fin 32, soft (fun s => score (fun d => q n (col (hd c) d)) (fun d => sk s (col (hd c) d))) s * sv s c

/-- The weights the block uses. -/
structure Weights where
  (Wo Wsk Wsv W1 W2 : Fin 128 → Fin 128 → EReal)
  (bo bsk bsv g b b1 b2 : Fin 128 → EReal)

/-- The row after the output map, its normalization, scale and shift. -/
def mid (w : Weights) (q k v : Fin 325 → Fin 128 → EReal) (ix : Fin 32 → Fin 8 → Fin 325)
    (n : Fin 325) (c : Fin 128) : EReal :=
  norm (lin (back q (lin (pick q ix) w.Wsk w.bsk) (lin (vals q k v ix) w.Wsv w.bsv)) w.Wo w.bo n) c * w.g c + w.b c

/-- The feed-forward layer on a row. -/
def ffn (w : Weights) (x : Fin 325 → Fin 128 → EReal) : Fin 325 → Fin 128 → EReal :=
  lin (fun i c => max (lin x w.W1 w.b1 i c) 0) w.W2 w.b2

/-- The block's output row: the feed-forward layer with its residual, normalized. -/
def out (w : Weights) (q k v : Fin 325 → Fin 128 → EReal) (ix : Fin 32 → Fin 8 → Fin 325)
    (n : Fin 325) (c : Fin 128) : EReal :=
  norm (fun c => mid w q k v ix n c + ffn w (mid w q k v ix) n c) c

end Cert.Attn

end
-- ==== Proof.KernelOps.lean ====
/- The steps of the attention body, each read at an index as the plain function it computes. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem
open Cert.Attn (hd col top soft score lin mean norm)

/-- The sixteen columns of one head, from column `o` on. -/
def part (o : ℕ) (h : S325x128.Slices ![0, o] S325x16) (x : FVec Ideal S325x128 .f32) : FVec Ideal S325x16 .f32 :=
  extractStridedSlice S325x16 ![0, o] x h

/-- The same of the sampled rows. -/
def partS (o : ℕ) (h : S32x128.Slices ![0, o] S32x16) (x : FVec Ideal S32x128 .f32) : FVec Ideal S32x16 .f32 :=
  extractStridedSlice S32x16 ![0, o] x h

/-- Rows chosen by a matrix of zeros and ones. -/
def take (g : FVec Ideal S32x325 .f32) (x : FVec Ideal S325x16 .f32) : FVec Ideal S32x16 .f32 :=
  matmul dot_S32x325_S325x16_S32x16_1_0_0_1_n_n none g x (constant S32x16 .f32 0x00000000#32)

/-- Softmax along the 325 nodes. -/
def softN (x : FVec Ideal S32x325 .f32) : FVec Ideal S32x325 .f32 :=
  divf (exp (subf x (broadcastTo S32x325 (shapeCast S32x1 (multiReduction .maximumf [1] S32 x 0xFF800000#32 reduces_S32x325_S32 (.inl rfl) rfl) shapeCasts_S32_S32x1) broadcasts_S32x1_S32x325)))
    (broadcastTo S32x325 (shapeCast S32x1 (multiReduction .add [1] S32 (exp (subf x (broadcastTo S32x325 (shapeCast S32x1 (multiReduction .maximumf [1] S32 x 0xFF800000#32 reduces_S32x325_S32 (.inl rfl) rfl) shapeCasts_S32_S32x1) broadcasts_S32x1_S32x325))) 0x00000000#32 reduces_S32x325_S32 (.inl rfl) rfl) shapeCasts_S32_S32x1) broadcasts_S32x1_S32x325)

/-- Softmax along the 32 samples. -/
def softS (x : FVec Ideal S325x32 .f32) : FVec Ideal S325x32 .f32 :=
  divf (exp (subf x (broadcastTo S325x32 (shapeCast S325x1 (multiReduction .maximumf [1] S325 x 0xFF800000#32 reduces_S325x32_S325 (.inl rfl) rfl) shapeCasts_S325_S325x1) broadcasts_S325x1_S325x32)))
    (broadcastTo S325x32 (shapeCast S325x1 (multiReduction .add [1] S325 (exp (subf x (broadcastTo S325x32 (shapeCast S325x1 (multiReduction .maximumf [1] S325 x 0xFF800000#32 reduces_S325x32_S325 (.inl rfl) rfl) shapeCasts_S325_S325x1) broadcasts_S325x1_S325x32))) 0x00000000#32 reduces_S325x32_S325 (.inl rfl) rfl) shapeCasts_S325_S325x1) broadcasts_S325x1_S325x32)

/-- One head of the first attention: sampled queries against all keys, weighting all values. -/
def headVals (q : FVec Ideal S32x16 .f32) (k v : FVec Ideal S325x16 .f32) : FVec Ideal S32x16 .f32 :=
  matmul dot_S32x325_S325x16_S32x16_1_0_0_1_n_n none
    (softN (divf (matmul dot_S32x16_S325x16_S32x325_1_1_0_0_n_n none q k (constant S32x325 .f32 0x00000000#32)) (broadcast S32x325 (Scalar.ofBits .f32 0x40800000#32))))
    v (constant S32x16 .f32 0x00000000#32)

/-- One head of the second attention: all queries against the sampled rows. -/
def headBack (q : FVec Ideal S325x16 .f32) (k v : FVec Ideal S32x16 .f32) : FVec Ideal S325x16 .f32 :=
  extf .f32 (truncf .bf16 (matmul dot_S325x32_S32x16_S325x16_1_0_0_1_n_n none
    (softS (divf (matmul dot_S325x16_S32x16_S325x32_1_1_0_0_n_n none q k (constant S325x32 .f32 0x00000000#32)) (broadcast S325x32 (Scalar.ofBits .f32 0x40800000#32))))
    v (constant S325x16 .f32 0x00000000#32)) bitsLt_bf16_f32) bitsLt_bf16_f32

/-- A head's columns, at an index. -/
theorem part_at (o : ℕ) (h) (x : FVec Ideal S325x128 .f32) (n : Fin 325) (d : Fin 16) :
    part o h x (ix2 n d) = x (ix2 n ⟨o + d.val, by have := h.2 1; simp at this; omega⟩) := by
  pointwise [part]

/-- Softmax along the nodes, at an index. -/
theorem softN_at (x : FVec Ideal S32x325 .f32) (s : Fin 32) (n : Fin 325) :
    softN x (ix2 s n) = soft (fun n => x (ix2 s n)) n := by
  pointwise [softN, soft, top]

/-- Softmax along the samples, at an index. -/
theorem softS_at (x : FVec Ideal S325x32 .f32) (n : Fin 325) (s : Fin 32) :
    softS x (ix2 n s) = soft (fun s => x (ix2 n s)) s := by
  pointwise [softS, soft, top]

/-- One head of the first attention, at an index. -/
theorem headVals_at (q : FVec Ideal S32x16 .f32) (k v : FVec Ideal S325x16 .f32) (s : Fin 32) (d : Fin 16) :
    headVals q k v (ix2 s d)
      = ∑ n : Fin 325, soft (fun n => score (fun d => q (ix2 s d)) (fun d => k (ix2 n d))) n * v (ix2 n d) := by
  pointwise [headVals, softN_at, score]

/-- One head of the second attention, at an index. -/
theorem headBack_at (q : FVec Ideal S325x16 .f32) (k v : FVec Ideal S32x16 .f32) (n : Fin 325) (d : Fin 16) :
    headBack q k v (ix2 n d)
      = ∑ s : Fin 32, soft (fun s => score (fun d => q (ix2 n d)) (fun d => k (ix2 s d))) s * v (ix2 s d) := by
  pointwise [headBack, softS_at, score]

/-- The same of the sampled rows, at an index. -/
theorem partS_at (o : ℕ) (h) (x : FVec Ideal S32x128 .f32) (n : Fin 32) (d : Fin 16) :
    partS o h x (ix2 n d) = x (ix2 n ⟨o + d.val, by have := h.2 1; simp at this; omega⟩) := by
  pointwise [partS]

/-- Eight heads' columns side by side. -/
def joinS (f : Fin 8 → FVec Ideal S32x16 .f32) : FVec Ideal S32x128 .f32 :=
  concatenate S32x128 1 [⟨S32x16, f 0⟩, ⟨S32x16, f 1⟩, ⟨S32x16, f 2⟩, ⟨S32x16, f 3⟩, ⟨S32x16, f 4⟩, ⟨S32x16, f 5⟩, ⟨S32x16, f 6⟩, ⟨S32x16, f 7⟩]
    concatenates_S32x16_S32x16_S32x16_S32x16_S32x16_S32x16_S32x16_S32x16_S32x128_d1

/-- The same of the 325 rows. -/
def joinN (f : Fin 8 → FVec Ideal S325x16 .f32) : FVec Ideal S325x128 .f32 :=
  concatenate S325x128 1 [⟨S325x16, f 0⟩, ⟨S325x16, f 1⟩, ⟨S325x16, f 2⟩, ⟨S325x16, f 3⟩, ⟨S325x16, f 4⟩, ⟨S325x16, f 5⟩, ⟨S325x16, f 6⟩, ⟨S325x16, f 7⟩]
    concatenates_S325x16_S325x16_S325x16_S325x16_S325x16_S325x16_S325x16_S325x16_S325x128_d1

/-- The lane of a column within its head. -/
def lane (c : Fin 128) : Fin 16 := ⟨c.val % 16, by omega⟩

/-- A column is its lane within its head. -/
theorem col_lane (c : Fin 128) : col (hd c) (lane c) = c := Fin.ext (by simp only [col, hd, lane]; omega)

/-- Choosing among eight pieces by comparing the column with the pieces' ends is choosing by its head. -/
theorem ladder {α : Type} (g : Fin 8 → Fin 16 → α) (c : Fin 128) (k : Fin 8) (d : ℕ) (hd' : d < 16) (h : c.val = 16 * k.val + d) :
    g k ⟨d, hd'⟩ = g (hd c) (lane c) :=
  congrArg₂ g (Fin.ext (by simp only [hd]; omega)) (Fin.ext (by simp only [lane]; omega))

/-- Joined columns, at an index: the column's head's piece, at the column's lane. -/
theorem joinS_at (f : Fin 8 → FVec Ideal S32x16 .f32) (s : Fin 32) (c : Fin 128) :
    joinS f (ix2 s c) = f (hd c) (ix2 s (lane c)) := by
  pointwise [joinS]
  have hc := c.isLt
  split_ifs <;> exact ladder (fun k d => f k (ix2 s d)) c _ _ _ (by first | (simp only [Fin.val_ofNat]; omega) | (show c.val = 16 * (_ : ℕ) + _; omega) | (simp; omega))

/-- Joined columns of the 325 rows, at an index. -/
theorem joinN_at (f : Fin 8 → FVec Ideal S325x16 .f32) (n : Fin 325) (c : Fin 128) :
    joinN f (ix2 n c) = f (hd c) (ix2 n (lane c)) := by
  pointwise [joinN]
  have hc := c.isLt
  split_ifs <;> exact ladder (fun k d => f k (ix2 n d)) c _ _ _ (by first | (simp only [Fin.val_ofNat]; omega) | (show c.val = 16 * (_ : ℕ) + _; omega) | (simp; omega))

/-- An indicator of two node numbers, as a value: one where they agree, zero elsewhere. -/
theorem indicator (n k : Fin 325) :
    (FloatOps.sitofp (F := Ideal) .f32 (BitVec.setWidth 32 (BitVec.ofBool
      (decide (((n.val : ℝ) : EReal) = FloatOps.sitofp (F := Ideal) .f32 (BitVec.ofNat 32 k.val))))) : EReal) = if k = n then 1 else 0 := by
  have hk : (FloatOps.sitofp (F := Ideal) .f32 (BitVec.ofNat 32 k.val) : EReal) = ((k.val : ℝ) : EReal) := by
    show (((BitVec.ofNat 32 k.val).toInt : ℝ) : EReal) = _
    have e : (BitVec.ofNat 32 k.val).toInt = (k.val : ℤ) := by
      rw [BitVec.toInt_eq_toNat_cond, BitVec.toNat_ofNat]; have := k.isLt; split_ifs <;> omega
    rw [e]; simp
  rw [hk]
  by_cases h : k = n
  · subst h
    show (((BitVec.setWidth 32 (BitVec.ofBool (decide _))).toInt : ℝ) : EReal) = _
    simp
  · have : ¬ (((n.val : ℝ) : EReal) = ((k.val : ℝ) : EReal)) := by
      rw [EReal.coe_eq_coe_iff, Nat.cast_inj]; exact fun e => h (Fin.ext e.symm)
    show (((BitVec.setWidth 32 (BitVec.ofBool (decide _))).toInt : ℝ) : EReal) = _
    rw [decide_eq_false this]; simp [h]

/-- The matrix of zeros and ones a head's node numbers give picks the numbered rows. -/
theorem take_at (w : Vec Ideal S1x32x1 .f32) (x : FVec Ideal S325x16 .f32) (s : Fin 32) (d : Fin 16) (n : Fin 325)
    (hw : w (ix3 0 s 0) = ((n.val : ℝ) : EReal)) :
    take (k0_pay6 (F := Ideal) w) x (ix2 s d) = x (ix2 n d) := by
  pointwise [take, k0_pay6, k0_pay5, hw]
  simp only [indicator, ite_mul, one_mul, zero_mul, Finset.sum_ite_eq', Finset.mem_univ, if_true]

end Cert.KernelIdeal.Block

end
-- ==== Proof.KernelStores.lean ====
/- The heads joined: what the three stores of the attention body hold, as functions of the staged blocks. -/
module

public import proofs.«01_k».proof.Proof.KernelOps
public import proofs.«01_k».proof.Proof.Gen.KernelIdeal.Frame

@[expose] public section

set_option maxRecDepth 16384

noncomputable section

namespace Cert.KernelIdeal.Block

open Cert.KernelIdeal Cert.KernelIdeal.Gen Idealize.ShloMosaic Idealize.ShloMosaic.TcCoe Idealize.SL.Sem
open Cert.Attn (hd col top soft score lin mean norm pick vals proj back Weights mid ffn out)

/-- Every head's columns lie within the 128, of the 325 rows. -/
theorem sliN (h : Fin 8) : S325x128.Slices ![0, 16 * h.val] S325x16 := by revert h; decide

/-- Every head's columns lie within the 128, of the sampled rows. -/
theorem sliS (h : Fin 8) : S32x128.Slices ![0, 16 * h.val] S32x16 := by revert h; decide

/-- One head's rows at its sampled nodes. -/
def chosen (w : Fin 8 → Vec Ideal S1x32x1 .f32) (x : FVec Ideal S325x128 .f32) (h : Fin 8) : FVec Ideal S32x16 .f32 :=
  take (k0_pay6 (w h)) (part (16 * h.val) (sliN h) x)

/-- All heads' rows at their sampled nodes, joined. -/
def chosenAll (w : Fin 8 → Vec Ideal S1x32x1 .f32) (x : FVec Ideal S325x128 .f32) : FVec Ideal S32x128 .f32 :=
  joinS (chosen w x)

/-- The first attention of all heads, joined. -/
def valsAll (w : Fin 8 → Vec Ideal S1x32x1 .f32) (q k v : FVec Ideal S325x128 .f32) : FVec Ideal S32x128 .f32 :=
  joinS fun h => headVals (chosen w q h) (part (16 * h.val) (sliN h) k) (part (16 * h.val) (sliN h) v)

/-- The second attention of all heads, joined. -/
def backAll (q : FVec Ideal S325x128 .f32) (sk sv : FVec Ideal S32x128 .f32) : FVec Ideal S325x128 .f32 :=
  joinN fun h => headBack (part (16 * h.val) (sliN h) q) (partS (16 * h.val) (sliS h) sk) (partS (16 * h.val) (sliS h) sv)

/-- The output map's product. -/
def omap (x : FVec Ideal S325x128 .f32) (wo : FVec Ideal S128x128 .f32) : FVec Ideal S325x128 .f32 :=
  matmul dot_S325x128_S128x128_S325x128_1_0_0_1_n_n none x wo (constant S325x128 .f32 0x00000000#32)

/-- The output store over the second attention: the output map, normalization, feed-forward layer, normalization. -/
def tailAll (x : FVec Ideal S325x128 .f32) (wo : Vec Ideal S128x128 .f32) (bo g b : Vec Ideal S1x128 .f32)
    (w1 : Vec Ideal S128x128 .f32) (b1 : Vec Ideal S1x128 .f32) (w2 : Vec Ideal S128x128 .f32) (b2 : Vec Ideal S1x128 .f32) :
    FVec Ideal S1x325x128 .f32 :=
  k0_pay1 (k0_pay68 (omap x wo) (k0_pay67 bo) g b)
    (k0_pay69 (omap x wo) (k0_pay67 bo) g b w1 b1 w2)
    (k0_pay70 b2)

/-- The eight columns of node numbers the body loads, one per head. -/
def wcol (x : Vec Ideal S1x32x8 .f32) : Fin 8 → Vec Ideal S1x32x1 .f32 :=
  ![View.ld x r0_1, View.ld x r0_2, View.ld x r0_3, View.ld x r0_4, View.ld x r0_5, View.ld x r0_6, View.ld x r0_7, View.ld x r0_8]

section
variable (x0 x1 x2 : Vec Ideal S1x325x128 .f32) (x3 : Vec Ideal S1x32x8 .f32) (x4 : Vec Ideal S128x128 .f32) (x5 : Vec Ideal S1x128 .f32)
  (x6 : Vec Ideal S128x128 .f32) (x7 : Vec Ideal S1x128 .f32) (x8 : Vec Ideal S128x128 .f32) (x9 x10 x11 : Vec Ideal S1x128 .f32)
  (x12 : Vec Ideal S128x128 .f32) (x13 : Vec Ideal S1x128 .f32) (x14 : Vec Ideal S128x128 .f32) (x15 : Vec Ideal S1x128 .f32)

/-- The store of the third result holds the joined first attention. -/
theorem store18 : out0_18 x0 x1 x2 x3 x4 x5 x6 x7 x8 x9 x10 x11 x12 x13 x14 x15
    = View.canon [⟨r0_9, shapeCast S1x32x128 (valsAll (wcol x3) (k0_pay2 (View.ld x0 r0_0)) (k0_pay3 (View.ld x1 r0_0)) (k0_pay4 (View.ld x2 r0_0))) shapeCasts_S32x128_S1x32x128⟩] := rfl

/-- The store of the second result holds the sampling projector of the joined chosen keys. -/
theorem store17 : out0_17 x0 x1 x2 x3 x4 x5 x6 x7 x8 x9 x10 x11 x12 x13 x14 x15
    = View.canon [⟨r0_10, k0_pay52 (k0_pay2 (View.ld x0 r0_0)) (chosenAll (wcol x3) (k0_pay3 (View.ld x1 r0_0)))⟩] := rfl

set_option maxHeartbeats 1600000 in
/-- The store of the first result holds the tail over the second attention. -/
theorem store16 : out0_16 x0 x1 x2 x3 x4 x5 x6 x7 x8 x9 x10 x11 x12 x13 x14 x15
    = View.canon [⟨r0_0, tailAll (backAll (k0_pay2 (View.ld x0 r0_0))
        (k0_pay53 (chosenAll (wcol x3) (k0_pay2 (View.ld x0 r0_0))) (View.ld x6 r0_11) (View.ld x7 r0_12))
        (k0_pay54 (valsAll (wcol x3) (k0_pay2 (View.ld x0 r0_0)) (k0_pay3 (View.ld x1 r0_0)) (k0_pay4 (View.ld x2 r0_0))) (View.ld x8 r0_11) (View.ld x9 r0_12)))
        (View.ld x4 r0_11) (View.ld x5 r0_12) (View.ld x10 r0_12) (View.ld x11 r0_12) (View.ld x12 r0_11) (View.ld x13 r0_12) (View.ld x14 r0_11) (View.ld x15 r0_12)⟩] := rfl

end

end Cert.KernelIdeal.Block

end
-- ==== Proof.KernelBlock.lean ====
/- The joined heads and the tail of the attention body, read at an index as plain functions. -/
module

public import proofs.«01_k».proof.Proof.KernelStores

@[expose] public section

set_option maxRecDepth 16384

noncomputable section

namespace Cert.KernelIdeal.Block

open Cert.KernelIdeal Cert.KernelIdeal.Gen Idealize.ShloMosaic Idealize.ShloMosaic.TcCoe Idealize.SL.Sem
open Cert.Attn (hd col top soft score lin mean norm pick vals proj back Weights mid ffn out)

/-- The head of a head's column. -/
theorem hd_col (h : Fin 8) (d : Fin 16) : hd (col h d) = h := Fin.ext (by simp only [col, hd]; omega)

/-- A matrix by rows and columns. -/
abbrev mat {r : ℕ} (x : FVec Ideal ⟨2, ![r, 128]⟩ .f32) (n : Fin r) (c : Fin 128) : EReal := x (ix2 n c)

variable (w : Fin 8 → Vec Ideal S1x32x1 .f32) (ix : Fin 32 → Fin 8 → Fin 325)
  (hw : ∀ (h : Fin 8) (s : Fin 32), w h (ix3 0 s 0) = (((ix s h).val : ℝ) : EReal))

include hw in
/-- One head's chosen rows, at an index. -/
theorem chosen_at (x : FVec Ideal S325x128 .f32) (h : Fin 8) (s : Fin 32) (d : Fin 16) :
    chosen w x h (ix2 s d) = pick (mat x) ix s (col h d) := by
  rw [chosen, take_at _ _ _ _ (ix s h) (hw h s), part_at, pick, hd_col]; rfl

include hw in
/-- All heads' chosen rows, at an index. -/
theorem chosenAll_at (x : FVec Ideal S325x128 .f32) (s : Fin 32) (c : Fin 128) :
    chosenAll w x (ix2 s c) = pick (mat x) ix s c := by
  rw [chosenAll, joinS_at, chosen_at w ix hw, col_lane]

include hw in
/-- The first attention, at an index. -/
theorem valsAll_at (q k v : FVec Ideal S325x128 .f32) (s : Fin 32) (c : Fin 128) :
    valsAll w q k v (ix2 s c) = vals (mat q) (mat k) (mat v) ix s c := by
  rw [valsAll, joinS_at, headVals_at]
  simp only [chosen_at w ix hw, part_at]
  have e : ∀ h, (⟨16 * (hd c).val + (lane c).val, h⟩ : Fin 128) = c := fun _ => col_lane c
  simp only [e]; rfl

/-- The second attention, at an index. -/
theorem backAll_at (q : FVec Ideal S325x128 .f32) (sk sv : FVec Ideal S32x128 .f32) (n : Fin 325) (c : Fin 128) :
    backAll q sk sv (ix2 n c) = back (mat q) (mat sk) (mat sv) n c := by
  rw [backAll, joinN_at, headBack_at]
  simp only [part_at, partS_at]
  have e : ∀ h, (⟨16 * (hd c).val + (lane c).val, h⟩ : Fin 128) = c := fun _ => col_lane c
  simp only [e]; rfl

/-- The sampling projector, at an index. -/
theorem pay52_at (q : FVec Ideal S325x128 .f32) (k : FVec Ideal S32x128 .f32) (n : Fin 325) (s : Fin 32) :
    k0_pay52 q k (ix3 0 n s) = soft (fun s => score (mat q n) (mat k s)) s := by
  pointwise [k0_pay52, soft, top, score]

/-- The map of the sampled queries, at an index. -/
theorem pay53_at (x : FVec Ideal S32x128 .f32) (W : Vec Ideal S128x128 .f32) (b : Vec Ideal S1x128 .f32) (s : Fin 32) (c : Fin 128) :
    k0_pay53 x W b (ix2 s c) = lin (mat x) (mat W) (fun c => b (ix2 0 c)) s c := by
  pointwise! [k0_pay53, lin]

/-- The map of the sampled values, at an index. -/
theorem pay54_at (x : FVec Ideal S32x128 .f32) (W : Vec Ideal S128x128 .f32) (b : Vec Ideal S1x128 .f32) (s : Fin 32) (c : Fin 128) :
    k0_pay54 x W b (ix2 s c) = lin (mat x) (mat W) (fun c => b (ix2 0 c)) s c := by
  pointwise! [k0_pay54, lin]

/-- The output map's row. -/
def orow (x : FVec Ideal S325x128 .f32) (wo : Vec Ideal S128x128 .f32) (bo : Vec Ideal S1x128 .f32) : Fin 325 → Fin 128 → EReal :=
  lin (mat x) (mat wo) (fun c => bo (ix2 0 c))

/-- The first normalization with its scale and shift, at an index. -/
theorem pay68_at (x : FVec Ideal S325x128 .f32) (wo : Vec Ideal S128x128 .f32) (bo g b : Vec Ideal S1x128 .f32) (n : Fin 325) (c : Fin 128) :
    k0_pay68 (omap x wo) (k0_pay67 bo) g b (ix2 n c)
      = norm (orow x wo bo n) c * g (ix2 0 c) + b (ix2 0 c) := by
  pointwise! [k0_pay68, k0_pay67, omap, orow, Cert.Attn.norm, mean, lin]

/-- The feed-forward layer over the normalized rows, at an index. -/
theorem pay69_at (y z : FVec Ideal S325x128 .f32) (g b : Vec Ideal S1x128 .f32)
    (w1 : Vec Ideal S128x128 .f32) (b1 b2 : Vec Ideal S1x128 .f32) (w2 : Vec Ideal S128x128 .f32) (n : Fin 325) (c : Fin 128) :
    addf (k0_pay69 y z g b w1 b1 w2) (k0_pay70 b2) (ix2 n c)
      = lin (fun i c => max (lin (mat (k0_pay68 y z g b)) (mat w1) (fun c => b1 (ix2 0 c)) i c) 0) (mat w2) (fun c => b2 (ix2 0 c)) n c := by
  pointwise! [k0_pay69, k0_pay70, lin]

/-- The residual's normalization, at an index. -/
theorem pay1_at (x y z : FVec Ideal S325x128 .f32) (n : Fin 325) (c : Fin 128) :
    k0_pay1 x y z (ix3 0 n c) = norm (fun c => x (ix2 n c) + addf y z (ix2 n c)) c := by
  pointwise! [k0_pay1, Cert.Attn.norm, mean]

end Cert.KernelIdeal.Block

end
-- ==== Proof.KernelBlocks.lean ====
/- What one grid point stores of each result, over any blocks: the plain functions of the blocks' rows. -/
module

public import proofs.«01_k».proof.Proof.KernelBlock

@[expose] public section

set_option maxRecDepth 16384

noncomputable section

namespace Cert.KernelIdeal.Block

open Cert.KernelIdeal Cert.KernelIdeal.Gen Idealize.ShloMosaic Idealize.ShloMosaic.TcCoe Idealize.SL.Sem
open Cert.Attn (hd col top soft score lin mean pick vals proj back Weights mid ffn out)

/-- The body's rows of queries, at an index. -/
theorem pay2_at (x : Vec Ideal S1x325x128 .f32) (n : Fin 325) (c : Fin 128) : k0_pay2 x (ix2 n c) = x (ix3 0 n c) := by
  pointwise! [k0_pay2]

/-- The body's rows of keys, at an index. -/
theorem pay3_at (x : Vec Ideal S1x325x128 .f32) (n : Fin 325) (c : Fin 128) : k0_pay3 x (ix2 n c) = x (ix3 0 n c) := pay2_at x n c

/-- The body's rows of values, at an index. -/
theorem pay4_at (x : Vec Ideal S1x325x128 .f32) (n : Fin 325) (c : Fin 128) : k0_pay4 x (ix2 n c) = x (ix3 0 n c) := pay2_at x n c

/-- A head's column of node numbers, at an index. -/
theorem wcol_at (x : Vec Ideal S1x32x8 .f32) (h : Fin 8) (s : Fin 32) : wcol x h (ix3 0 s 0) = x (ix3 0 s h) := by
  fin_cases h <;> (simp only [wcol]; refine congrArg x ?_; idx_ext)

/-- The tail over an array of rows, at an index. -/
theorem tailAll_at (x : FVec Ideal S325x128 .f32) (wo : Vec Ideal S128x128 .f32) (bo g b : Vec Ideal S1x128 .f32)
    (w1 : Vec Ideal S128x128 .f32) (b1 : Vec Ideal S1x128 .f32) (w2 : Vec Ideal S128x128 .f32) (b2 : Vec Ideal S1x128 .f32)
    (n : Fin 325) (c : Fin 128) :
    tailAll x wo bo g b w1 b1 w2 b2 (ix3 0 n c)
      = Cert.Attn.norm (fun c => (Cert.Attn.norm (orow x wo bo n) c * g (ix2 0 c) + b (ix2 0 c))
          + lin (fun i c => max (lin (fun n c => Cert.Attn.norm (orow x wo bo n) c * g (ix2 0 c) + b (ix2 0 c)) (mat w1) (fun c => b1 (ix2 0 c)) i c) 0)
              (mat w2) (fun c => b2 (ix2 0 c)) n c) c := by
  have hm : mat (k0_pay68 (omap x wo) (k0_pay67 bo) g b) = fun n c => Cert.Attn.norm (orow x wo bo n) c * g (ix2 0 c) + b (ix2 0 c) :=
    funext fun n => funext fun c => pay68_at x wo bo g b n c
  rw [tailAll, pay1_at]
  simp only [pay69_at, pay68_at, hm]

section
variable (x0 x1 x2 : Vec Ideal S1x325x128 .f32) (x3 : Vec Ideal S1x32x8 .f32) (x4 : Vec Ideal S128x128 .f32) (x5 : Vec Ideal S1x128 .f32)
  (x6 : Vec Ideal S128x128 .f32) (x7 : Vec Ideal S1x128 .f32) (x8 : Vec Ideal S128x128 .f32) (x9 x10 x11 : Vec Ideal S1x128 .f32)
  (x12 : Vec Ideal S128x128 .f32) (x13 : Vec Ideal S1x128 .f32) (x14 : Vec Ideal S128x128 .f32) (x15 : Vec Ideal S1x128 .f32)
  (ix : Fin 32 → Fin 8 → Fin 325) (hi : ∀ (s : Fin 32) (h : Fin 8), x3 (ix3 0 s h) = (((ix s h).val : ℝ) : EReal))

/-- A block of three axes, the first a single one, by rows and columns. -/
abbrev blk (x : Vec Ideal S1x325x128 .f32) (n : Fin 325) (c : Fin 128) : EReal := x (ix3 0 n c)

/-- The weights of the blocks, by rows and columns. -/
def bw : Weights where
  Wo := fun i j => x4 (ix2 i j)
  Wsk := fun i j => x6 (ix2 i j)
  Wsv := fun i j => x8 (ix2 i j)
  W1 := fun i j => x12 (ix2 i j)
  W2 := fun i j => x14 (ix2 i j)
  bo := fun j => x5 (ix2 0 j)
  bsk := fun j => x7 (ix2 0 j)
  bsv := fun j => x9 (ix2 0 j)
  g := fun j => x10 (ix2 0 j)
  b := fun j => x11 (ix2 0 j)
  b1 := fun j => x13 (ix2 0 j)
  b2 := fun j => x15 (ix2 0 j)

/-- The rows of queries as a matrix. -/
theorem mat2 (x : Vec Ideal S1x325x128 .f32) : mat (k0_pay2 x) = blk x := funext fun n => funext fun c => pay2_at x n c

/-- The rows of keys as a matrix. -/
theorem mat3 (x : Vec Ideal S1x325x128 .f32) : mat (k0_pay3 x) = blk x := funext fun n => funext fun c => pay3_at x n c

/-- The rows of values as a matrix. -/
theorem mat4 (x : Vec Ideal S1x325x128 .f32) : mat (k0_pay4 x) = blk x := funext fun n => funext fun c => pay4_at x n c

include hi in
/-- The columns of node numbers name the nodes. -/
theorem names (h : Fin 8) (s : Fin 32) : wcol x3 h (ix3 0 s 0) = (((ix s h).val : ℝ) : EReal) := (wcol_at x3 h s).trans (hi s h)

include hi in
/-- The third result's block, at an index. -/
theorem block18 (s : Fin 32) (c : Fin 128) :
    shapeCast S1x32x128 (valsAll (wcol x3) (k0_pay2 x0) (k0_pay3 x1) (k0_pay4 x2)) shapeCasts_S32x128_S1x32x128 (ix3 0 s c)
      = vals (blk x0) (blk x1) (blk x2) ix s c := by
  have h : ∀ y : FVec Ideal S32x128 .f32, shapeCast S1x32x128 y shapeCasts_S32x128_S1x32x128 (ix3 0 s c) = y (ix2 s c) := fun y => by pointwise
  rw [h, valsAll_at (wcol x3) ix (names x3 ix hi), mat2, mat3, mat4]

include hi in
/-- The second result's block, at an index. -/
theorem block17 (n : Fin 325) (s : Fin 32) :
    k0_pay52 (k0_pay2 x0) (chosenAll (wcol x3) (k0_pay3 x1)) (ix3 0 n s) = proj (blk x0) (blk x1) ix n s := by
  rw [pay52_at, proj]
  refine congrFun (congrArg soft (funext fun s => ?_)) s
  rw [mat2]
  refine congrArg (score (blk x0 n)) (funext fun c => ?_)
  rw [mat, chosenAll_at (wcol x3) ix (names x3 ix hi), mat3]

include hi in
/-- The first result's block, at an index. -/
theorem block16 (n : Fin 325) (c : Fin 128) :
    tailAll (backAll (k0_pay2 x0)
        (k0_pay53 (chosenAll (wcol x3) (k0_pay2 x0)) x6 x7)
        (k0_pay54 (valsAll (wcol x3) (k0_pay2 x0) (k0_pay3 x1) (k0_pay4 x2)) x8 x9))
        x4 x5 x10 x11 x12 x13 x14 x15 (ix3 0 n c)
      = out (bw x4 x5 x6 x7 x8 x9 x10 x11 x12 x13 x14 x15) (blk x0) (blk x1) (blk x2) ix n c := by
  have hb : ∀ n, orow (backAll (k0_pay2 x0) (k0_pay53 (chosenAll (wcol x3) (k0_pay2 x0)) x6 x7)
        (k0_pay54 (valsAll (wcol x3) (k0_pay2 x0) (k0_pay3 x1) (k0_pay4 x2)) x8 x9)) x4 x5 n
      = lin (back (blk x0) (lin (pick (blk x0) ix) (mat x6) fun c => x7 (ix2 0 c)) (lin (vals (blk x0) (blk x1) (blk x2) ix) (mat x8) fun c => x9 (ix2 0 c)))
          (mat x4) (fun c => x5 (ix2 0 c)) n := fun n => by
    funext c
    rw [orow]
    refine congrFun (congrFun (congrArg (fun z => lin z (mat x4) fun c => x5 (ix2 0 c)) (funext fun n => funext fun c => ?_)) n) c
    rw [mat, backAll_at, mat2]
    have e1 : mat (k0_pay53 (chosenAll (wcol x3) (k0_pay2 x0)) x6 x7) = lin (pick (blk x0) ix) (mat x6) fun c => x7 (ix2 0 c) := by
      funext s c
      rw [mat, pay53_at]
      refine congrFun (congrFun (congrArg (fun z => lin z (mat x6) fun c => x7 (ix2 0 c)) (funext fun n => funext fun c => ?_)) s) c
      rw [mat, chosenAll_at (wcol x3) ix (names x3 ix hi), mat2]
    have e2 : mat (k0_pay54 (valsAll (wcol x3) (k0_pay2 x0) (k0_pay3 x1) (k0_pay4 x2)) x8 x9)
        = lin (vals (blk x0) (blk x1) (blk x2) ix) (mat x8) fun c => x9 (ix2 0 c) := by
      funext s c
      rw [mat, pay54_at]
      refine congrFun (congrFun (congrArg (fun z => lin z (mat x8) fun c => x9 (ix2 0 c)) (funext fun n => funext fun c => ?_)) s) c
      rw [mat, valsAll_at (wcol x3) ix (names x3 ix hi), mat2, mat3, mat4]
    rw [e1, e2]
  rw [tailAll_at]
  simp only [hb]
  rfl

end

end Cert.KernelIdeal.Block

end
-- ==== Proof.RefLayout.lean ====
/- The reference's layouts: heads split and merged, and the rows picked at sampled nodes. -/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Stage

open Cert.ReferenceIdeal Cert.ReferenceIdeal.Gen Cert.ReferenceIdeal.Read Idealize.ShloMosaic Idealize.ShloMosaic.TcCoe Idealize.SL.Sem
open Cert.Attn (hd col)

/-- The row of the flat array that node `n` at time step `t` of batch entry `b` has. -/
def row (b : Fin 8) (t : Fin 12) (n : Fin 325) : Fin 31200 := ⟨(b.val * 12 + t.val) * 325 + n.val, by omega⟩

/-- The batch entry of a stacked index: heads are stacked over whole batches. -/
def bat (e : Fin 64) : Fin 8 := ⟨e.val % 8, by omega⟩

/-- The head of a stacked index. -/
def hed (e : Fin 64) : Fin 8 := ⟨e.val / 8, by omega⟩

/-- The stacked index of a head and a batch entry. -/
def stk (h b : Fin 8) : Fin 64 := ⟨8 * h.val + b.val, by omega⟩

/-- The batch entry of the stacked index of a head and a batch entry. -/
theorem bat_stk (h b : Fin 8) : bat (stk h b) = b := Fin.ext (by simp only [bat, stk]; omega)

/-- The head of the stacked index of a head and a batch entry. -/
theorem hed_stk (h b : Fin 8) : hed (stk h b) = h := Fin.ext (by simp only [hed, stk]; omega)

/-- The lane of a column within its head. -/
def lane (c : Fin 128) : Fin 16 := ⟨c.val % 16, by omega⟩

/-- A column is its lane within its head. -/
theorem col_lane (c : Fin 128) : col (hd c) (lane c) = c := Fin.ext (by simp only [col, hd, lane]; omega)

/-- The head of a head's column. -/
theorem hd_col (h : Fin 8) (d : Fin 16) : hd (col h d) = h := Fin.ext (by simp only [col, hd]; omega)

/-- The unfolded array at its four coordinates. -/
theorem v0_at (x : FVec Ideal S31200x128 .f32) (b : Fin 8) (t : Fin 12) (n : Fin 325) (c : Fin 128) :
    val_main_v0 (F := Ideal) x (ix4 b t n c) = x (ix2 (row b t n) c) := by
  pointwise [val_main_v0, row]
  exact congrArg (fun r => x (ix2 r c)) (Fin.ext (by show b.val * 3900 + t.val * 325 + n.val = (b.val * 12 + t.val) * 325 + n.val; omega))

/-- Choosing a slab of columns by the stacked index is choosing by its head and batch entry. -/
theorem ladderE {α : Type} (g : Fin 8 → Fin 128 → α) (e : Fin 64) (d : Fin 16) (b c : ℕ) (hb : b < 8) (hc : c < 128)
    (h : e.val % 8 = b) (h' : 16 * (e.val / 8) + d.val = c) : g ⟨b, hb⟩ ⟨c, hc⟩ = g (bat e) (col (hed e) d) :=
  congrArg₂ g (Fin.ext h.symm) (Fin.ext h'.symm)

/-- The heads stacked over batches, of an array of 325 rows. -/
theorem split_at (x : FVec Ideal S31200x128 .f32) (e : Fin 64) (t : Fin 12) (n : Fin 325) (d : Fin 16) :
    val_main_v12 (F := Ideal) x (ix4 e t n d) = x (ix2 (row (bat e) t n) (col (hed e) d)) := by
  pointwise [val_main_v12, val_main_v4, val_main_v5, val_main_v6, val_main_v7, val_main_v8, val_main_v9, val_main_v10, val_main_v11, v0_at]
  have he := e.isLt
  split_ifs <;> exact ladderE (fun b c => x (ix2 (row b t n) c)) e d _ _ _ _ (by omega) (by omega)

/-- The keys are stacked as the queries are. -/
theorem v21_eq (x : FVec Ideal S31200x128 .f32) : val_main_v21 (F := Ideal) x = val_main_v12 (F := Ideal) x := rfl

/-- The values are stacked as the queries are. -/
theorem v30_eq (x : FVec Ideal S31200x128 .f32) : val_main_v30 (F := Ideal) x = val_main_v12 (F := Ideal) x := rfl

/-- The heads of an array of 32 rows stacked over batches. -/
def splitS (y : FVec Ideal S8x12x32x128 .f32) : FVec Ideal S64x12x32x16 .f32 :=
  concatenate S64x12x32x16 0 [⟨S8x12x32x16, extractStridedSlice S8x12x32x16 ![0, 0, 0, 0] y slices_S8x12x32x128_S8x12x32x16_0_0_0_0⟩,
    ⟨S8x12x32x16, extractStridedSlice S8x12x32x16 ![0, 0, 0, 16] y slices_S8x12x32x128_S8x12x32x16_0_0_0_16⟩,
    ⟨S8x12x32x16, extractStridedSlice S8x12x32x16 ![0, 0, 0, 32] y slices_S8x12x32x128_S8x12x32x16_0_0_0_32⟩,
    ⟨S8x12x32x16, extractStridedSlice S8x12x32x16 ![0, 0, 0, 48] y slices_S8x12x32x128_S8x12x32x16_0_0_0_48⟩,
    ⟨S8x12x32x16, extractStridedSlice S8x12x32x16 ![0, 0, 0, 64] y slices_S8x12x32x128_S8x12x32x16_0_0_0_64⟩,
    ⟨S8x12x32x16, extractStridedSlice S8x12x32x16 ![0, 0, 0, 80] y slices_S8x12x32x128_S8x12x32x16_0_0_0_80⟩,
    ⟨S8x12x32x16, extractStridedSlice S8x12x32x16 ![0, 0, 0, 96] y slices_S8x12x32x128_S8x12x32x16_0_0_0_96⟩,
    ⟨S8x12x32x16, extractStridedSlice S8x12x32x16 ![0, 0, 0, 112] y slices_S8x12x32x128_S8x12x32x16_0_0_0_112⟩]
    concatenates_S8x12x32x16_S8x12x32x16_S8x12x32x16_S8x12x32x16_S8x12x32x16_S8x12x32x16_S8x12x32x16_S8x12x32x16_S64x12x32x16_d0

/-- Stacked heads of 32 rows, at an index. -/
theorem splitS_at (y : FVec Ideal S8x12x32x128 .f32) (e : Fin 64) (t : Fin 12) (s : Fin 32) (d : Fin 16) :
    splitS y (ix4 e t s d) = y (ix4 (bat e) t s (col (hed e) d)) := by
  pointwise [splitS]
  have he := e.isLt
  split_ifs <;> exact ladderE (fun b c => y (ix4 b t s c)) e d _ _ _ _ (by omega) (by omega)

/-- The stacked heads of 32 rows joined again. -/
def mergeS (y : FVec Ideal S64x12x32x16 .f32) : FVec Ideal S8x12x32x128 .f32 :=
  concatenate S8x12x32x128 3 [⟨S8x12x32x16, extractStridedSlice S8x12x32x16 ![0, 0, 0, 0] y slices_S64x12x32x16_S8x12x32x16_0_0_0_0⟩,
    ⟨S8x12x32x16, extractStridedSlice S8x12x32x16 ![8, 0, 0, 0] y slices_S64x12x32x16_S8x12x32x16_8_0_0_0⟩,
    ⟨S8x12x32x16, extractStridedSlice S8x12x32x16 ![16, 0, 0, 0] y slices_S64x12x32x16_S8x12x32x16_16_0_0_0⟩,
    ⟨S8x12x32x16, extractStridedSlice S8x12x32x16 ![24, 0, 0, 0] y slices_S64x12x32x16_S8x12x32x16_24_0_0_0⟩,
    ⟨S8x12x32x16, extractStridedSlice S8x12x32x16 ![32, 0, 0, 0] y slices_S64x12x32x16_S8x12x32x16_32_0_0_0⟩,
    ⟨S8x12x32x16, extractStridedSlice S8x12x32x16 ![40, 0, 0, 0] y slices_S64x12x32x16_S8x12x32x16_40_0_0_0⟩,
    ⟨S8x12x32x16, extractStridedSlice S8x12x32x16 ![48, 0, 0, 0] y slices_S64x12x32x16_S8x12x32x16_48_0_0_0⟩,
    ⟨S8x12x32x16, extractStridedSlice S8x12x32x16 ![56, 0, 0, 0] y slices_S64x12x32x16_S8x12x32x16_56_0_0_0⟩]
    concatenates_S8x12x32x16_S8x12x32x16_S8x12x32x16_S8x12x32x16_S8x12x32x16_S8x12x32x16_S8x12x32x16_S8x12x32x16_S8x12x32x128_d3

/-- Choosing a head's piece by the column is choosing by its head and lane. -/
theorem ladderC {α : Type} (g : Fin 64 → Fin 16 → α) (b : Fin 8) (c : Fin 128) (e d : ℕ) (he : e < 64) (hd' : d < 16)
    (h : 8 * (c.val / 16) + b.val = e) (h' : c.val % 16 = d) : g ⟨e, he⟩ ⟨d, hd'⟩ = g (stk (hd c) b) (lane c) :=
  congrArg₂ g (Fin.ext h.symm) (Fin.ext h'.symm)

/-- Joined heads of 32 rows, at an index. -/
theorem mergeS_at (y : FVec Ideal S64x12x32x16 .f32) (b : Fin 8) (t : Fin 12) (s : Fin 32) (c : Fin 128) :
    mergeS y (ix4 b t s c) = y (ix4 (stk (hd c) b) t s (lane c)) := by
  pointwise [mergeS]
  have hc := c.isLt
  split_ifs <;> exact ladderC (fun e d => y (ix4 e t s d)) b c _ _ _ _ (by omega) (by omega)

/-- The stacked heads of 325 rows joined again. -/
def mergeN (y : FVec Ideal S64x12x325x16 .f32) : FVec Ideal S8x12x325x128 .f32 :=
  concatenate S8x12x325x128 3 [⟨S8x12x325x16, extractStridedSlice S8x12x325x16 ![0, 0, 0, 0] y slices_S64x12x325x16_S8x12x325x16_0_0_0_0⟩,
    ⟨S8x12x325x16, extractStridedSlice S8x12x325x16 ![8, 0, 0, 0] y slices_S64x12x325x16_S8x12x325x16_8_0_0_0⟩,
    ⟨S8x12x325x16, extractStridedSlice S8x12x325x16 ![16, 0, 0, 0] y slices_S64x12x325x16_S8x12x325x16_16_0_0_0⟩,
    ⟨S8x12x325x16, extractStridedSlice S8x12x325x16 ![24, 0, 0, 0] y slices_S64x12x325x16_S8x12x325x16_24_0_0_0⟩,
    ⟨S8x12x325x16, extractStridedSlice S8x12x325x16 ![32, 0, 0, 0] y slices_S64x12x325x16_S8x12x325x16_32_0_0_0⟩,
    ⟨S8x12x325x16, extractStridedSlice S8x12x325x16 ![40, 0, 0, 0] y slices_S64x12x325x16_S8x12x325x16_40_0_0_0⟩,
    ⟨S8x12x325x16, extractStridedSlice S8x12x325x16 ![48, 0, 0, 0] y slices_S64x12x325x16_S8x12x325x16_48_0_0_0⟩,
    ⟨S8x12x325x16, extractStridedSlice S8x12x325x16 ![56, 0, 0, 0] y slices_S64x12x325x16_S8x12x325x16_56_0_0_0⟩]
    concatenates_S8x12x325x16_S8x12x325x16_S8x12x325x16_S8x12x325x16_S8x12x325x16_S8x12x325x16_S8x12x325x16_S8x12x325x16_S8x12x325x128_d3

/-- Joined heads of 325 rows, at an index. -/
theorem mergeN_at (y : FVec Ideal S64x12x325x16 .f32) (b : Fin 8) (t : Fin 12) (n : Fin 325) (c : Fin 128) :
    mergeN y (ix4 b t n c) = y (ix4 (stk (hd c) b) t n (lane c)) := by
  pointwise [mergeN]
  have hc := c.isLt
  split_ifs <;> exact ladderC (fun e d => y (ix4 e t n d)) b c _ _ _ _ (by omega) (by omega)

/-- A small number read back from its word. -/
theorem word_nat {N : ℕ} (k : Fin N) (hN : N ≤ 325) : (BitVec.ofNat 32 k.val).toInt.toNat = k.val := by
  rw [BitVec.toInt_eq_toNat_cond, BitVec.toNat_ofNat]
  have := k.isLt
  split_ifs <;> omega

/-- How the picked rows are addressed: batch entry and head, time step, node; a whole row of sixteen lanes each. -/
abbrev GD : GatherDims S64x12x325x16 S64x12x32x3 S64x12x32x16 := gather_S64x12x325x16_S64x12x32x3_S64x12x32x16_3_012_n_n_012_3_11116

/-- Rows picked by three coordinates: where these are small numbers the row they name is read. -/
theorem gather_at (x : FVec Ideal S64x12x325x16 .f32) (I : IVec S64x12x32x3 32) (e : Fin 64) (t : Fin 12) (s : Fin 32) (d : Fin 16)
    (n : Fin 325) (h0 : I (ix4 e t s 0) = BitVec.ofNat 32 e.val) (h1 : I (ix4 e t s 1) = BitVec.ofNat 32 t.val)
    (h2 : I (ix4 e t s 2) = BitVec.ofNat 32 n.val) :
    Host.gather GD x I (ix4 e t s d) = x (ix4 e t n d) := by
  unfold Host.gather
  refine congrArg x (funext fun a => Fin.ext ?_)
  show GD.start (ix4 e t s d) I a + GD.batchCoord (ix4 e t s d) a + GD.offCoord (ix4 e t s d) a = _
  have hb : GD.batchCoord (ix4 e t s d) a = 0 := GatherDims.batchCoord_eq_zero _ _ _ List.not_mem_nil
  have hk : ∀ (k : Fin 3) (hm : a ∈ GD.startIndexMap) (he : List.idxOf a GD.startIndexMap = k.val) (v : ℕ)
      (hv : v ≤ S64x12x325x16.size a - GD.sliceSizes a) (hI : (I (ix4 e t s k)).toInt.toNat = v),
      GD.start (ix4 e t s d) I a + GD.batchCoord (ix4 e t s d) a + GD.offCoord (ix4 e t s d) a = v := by
    intro k hm he v hv hI
    rw [hb, GatherDims.offCoord_eq_zero _ _ _ (fun h => ((GatherDims.mem_sKept _ _).mp h).1 hm)]
    unfold GatherDims.start
    rw [dif_pos hm]
    have hsi : ∀ h, GD.siIdx (ix4 e t s d) ⟨List.idxOf a GD.startIndexMap, h⟩ = ix4 e t s k := by
      intro h
      funext b
      refine Fin.ext ?_
      match b with
      | ⟨0, _⟩ => rfl
      | ⟨1, _⟩ => rfl
      | ⟨2, _⟩ => rfl
      | ⟨3, _⟩ => exact he
    rw [hsi, hI]
    omega
  match a with
  | ⟨0, _⟩ => exact hk 0 (show (0 : Fin 4) ∈ GD.startIndexMap by decide) rfl _ (by have := e.isLt; show e.val ≤ 63; omega) (by rw [h0]; exact word_nat e (by decide))
  | ⟨1, _⟩ => exact hk 1 (show (1 : Fin 4) ∈ GD.startIndexMap by decide) rfl _ (by have := t.isLt; show t.val ≤ 11; omega) (by rw [h1]; exact word_nat t (by decide))
  | ⟨2, _⟩ => exact hk 2 (show (2 : Fin 4) ∈ GD.startIndexMap by decide) rfl _ (by have := n.isLt; show n.val ≤ 324; omega) (by rw [h2]; exact word_nat n (by decide))
  | ⟨3, _⟩ =>
    rw [hb]
    have hs : GD.start (ix4 e t s d) I (3 : Fin 4) = 0 := dif_neg (show ¬ (3 : Fin 4) ∈ GD.startIndexMap by decide)
    have ho : GD.offCoord (ix4 e t s d) (3 : Fin 4) = d.val := dif_pos (show (3 : Fin 4) ∈ GD.sKept by decide)
    exact (congrArg₂ (· + ·) (congrArg (· + 0) hs) ho).trans (by show 0 + 0 + d.val = d.val; omega)

end Cert.ReferenceIdeal.Stage

end
-- ==== Proof.RefSoft.lean ====
/- The reference's three softmaxes, each over arbitrary arrays, read at an index as plain functions. -/
module

public import proofs.«01_k».proof.Proof.RefLayout

@[expose] public section

set_option maxRecDepth 16384

noncomputable section

namespace Cert.ReferenceIdeal.Stage

open Cert.ReferenceIdeal Cert.ReferenceIdeal.Gen Cert.ReferenceIdeal.Read Idealize.ShloMosaic Idealize.ShloMosaic.TcCoe Idealize.SL.Sem
open Cert.Attn (hd col top soft score mean)

/-- Starting a maximum again from its least value changes nothing. -/
theorem max_top {n : ℕ} (f : Fin n → EReal) : max (Ideal.ofBits .f32 0xFF800000#32) (top f) = top f :=
  max_eq_right ((Finset.le_fold_max _).mpr (Or.inl le_rfl))

/-- The largest entries along the last of four axes, at an index. -/
theorem rowmax {n0 n1 n2 n3 : ℕ} (y : FVec Ideal ⟨4, ![n0, n1, n2, n3]⟩ .f32)
    (h : (⟨4, ![n0, n1, n2, n3]⟩ : Shape).ReducesTo [3] ⟨3, ![n0, n1, n2]⟩) (hu : 0 < S_.numel)
    (e : Fin n0) (t : Fin n1) (i : Fin n2) :
    Host.reduce FloatOps.maximumf y (constant S_ .f32 0xFF800000#32) h hu (ix3 e t i) = top (fun j => y (ix4 e t i j)) := by
  rw [Host.reduce_eq_fold, h.fold_fiber_r4_a3]
  rfl

/-- The maximum with the least number laid everywhere, at an index. -/
theorem leastA_at (X : FVec Ideal S64x12x32 .f32) (e : Fin 64) (t : Fin 12) (i : Fin 32) :
    maximumf (broadcastInDim S64x12x32 ![] bcast_S_S64x12x32 (constant S_ .f32 0xFF800000#32)) X (ix3 e t i) = max (Ideal.ofBits .f32 0xFF800000#32) (X (ix3 e t i)) :=
  rfl

/-- The rows' largest entries, over the nodes per head. -/
def maxA (y : FVec Ideal S64x12x32x325 .f32) : FVec Ideal S64x12x32 .f32 :=
  maximumf (broadcastInDim S64x12x32 ![] bcast_S_S64x12x32 (constant S_ .f32 0xFF800000#32))
    (Host.reduce FloatOps.maximumf y (constant S_ .f32 0xFF800000#32) reducesTo_S64x12x32x325_S64x12x32_d3 h_S_)

/-- A row's largest entry over the nodes per head, at an index. -/
theorem maxA_at (y : FVec Ideal S64x12x32x325 .f32) (e : Fin 64) (t : Fin 12) (i : Fin 32) :
    maxA y (ix3 e t i) = top (fun j => y (ix4 e t i j)) := by
  unfold maxA
  rw [leastA_at, rowmax y reducesTo_S64x12x32x325_S64x12x32_d3 h_S_ e t i, max_top]

/-- One number a row laid over the row, over the nodes per head. -/
def layA (m : FVec Ideal S64x12x32 .f32) : FVec Ideal S64x12x32x325 .f32 :=
  broadcastInDim S64x12x32x325 ![0, 1, 2, 3] bcast_S64x12x32x1_S64x12x32x325_0_1_2_3 (broadcastInDim S64x12x32x1 ![0, 1, 2] bcast_S64x12x32_S64x12x32x1_0_1_2 m)

/-- The laid number over the nodes per head, at an index. -/
theorem layA_at (m : FVec Ideal S64x12x32 .f32) (e : Fin 64) (t : Fin 12) (i : Fin 32) (j : Fin 325) :
    layA m (ix4 e t i j) = m (ix3 e t i) := by
  pointwise [layA]

/-- The sums of the rows, over the nodes per head. -/
def sumA (y : FVec Ideal S64x12x32x325 .f32) : FVec Ideal S64x12x32 .f32 :=
  Host.reduceAdd y (constant S_ .f32 0x00000000#32) reducesTo_S64x12x32x325_S64x12x32_d3 h_S_

/-- A row's sum over the nodes per head, at an index. -/
theorem sumA_at (y : FVec Ideal S64x12x32x325 .f32) (e : Fin 64) (t : Fin 12) (i : Fin 32) :
    sumA y (ix3 e t i) = ∑ j : Fin 325, y (ix4 e t i j) := by
  pointwise [sumA]

/-- Softmax along the last axis, over the nodes per head. -/
def softA (y : FVec Ideal S64x12x32x325 .f32) : FVec Ideal S64x12x32x325 .f32 :=
  Host.divf (Host.exp (subf y (layA (maxA y)))) (layA (sumA (Host.exp (subf y (layA (maxA y))))))

/-- An exponential of the softmax over the nodes per head, at an index. -/
theorem expA_at (y : FVec Ideal S64x12x32x325 .f32) (e : Fin 64) (t : Fin 12) (i : Fin 32) (j : Fin 325) :
    Host.exp (subf y (layA (maxA y))) (ix4 e t i j) = Ideal.exp (y (ix4 e t i j) - top (fun j => y (ix4 e t i j))) :=
  congrArg (fun z => Ideal.exp (y (ix4 e t i j) - z)) ((layA_at _ e t i j).trans (maxA_at y e t i))

/-- The softmax over the nodes per head, at an index. -/
theorem softA_at (y : FVec Ideal S64x12x32x325 .f32) (e : Fin 64) (t : Fin 12) (i : Fin 32) (j : Fin 325) :
    softA y (ix4 e t i j) = soft (fun j => y (ix4 e t i j)) j :=
  congrArg₂ Ideal.div (expA_at y e t i j)
    (((layA_at _ e t i j).trans (sumA_at _ e t i)).trans (Finset.sum_congr rfl fun k _ => expA_at y e t i k))

/-- The maximum with the least number laid everywhere, at an index. -/
theorem leastB_at (X : FVec Ideal S8x12x325 .f32) (e : Fin 8) (t : Fin 12) (i : Fin 325) :
    maximumf (broadcastInDim S8x12x325 ![] bcast_S_S8x12x325 (constant S_ .f32 0xFF800000#32)) X (ix3 e t i) = max (Ideal.ofBits .f32 0xFF800000#32) (X (ix3 e t i)) :=
  rfl

/-- The rows' largest entries, over the samples. -/
def maxB (y : FVec Ideal S8x12x325x32 .f32) : FVec Ideal S8x12x325 .f32 :=
  maximumf (broadcastInDim S8x12x325 ![] bcast_S_S8x12x325 (constant S_ .f32 0xFF800000#32))
    (Host.reduce FloatOps.maximumf y (constant S_ .f32 0xFF800000#32) reducesTo_S8x12x325x32_S8x12x325_d3 h_S_)

/-- A row's largest entry over the samples, at an index. -/
theorem maxB_at (y : FVec Ideal S8x12x325x32 .f32) (e : Fin 8) (t : Fin 12) (i : Fin 325) :
    maxB y (ix3 e t i) = top (fun j => y (ix4 e t i j)) := by
  unfold maxB
  rw [leastB_at, rowmax y reducesTo_S8x12x325x32_S8x12x325_d3 h_S_ e t i, max_top]

/-- One number a row laid over the row, over the samples. -/
def layB (m : FVec Ideal S8x12x325 .f32) : FVec Ideal S8x12x325x32 .f32 :=
  broadcastInDim S8x12x325x32 ![0, 1, 2, 3] bcast_S8x12x325x1_S8x12x325x32_0_1_2_3 (broadcastInDim S8x12x325x1 ![0, 1, 2] bcast_S8x12x325_S8x12x325x1_0_1_2 m)

/-- The laid number over the samples, at an index. -/
theorem layB_at (m : FVec Ideal S8x12x325 .f32) (e : Fin 8) (t : Fin 12) (i : Fin 325) (j : Fin 32) :
    layB m (ix4 e t i j) = m (ix3 e t i) := by
  pointwise [layB]

/-- The sums of the rows, over the samples. -/
def sumB (y : FVec Ideal S8x12x325x32 .f32) : FVec Ideal S8x12x325 .f32 :=
  Host.reduceAdd y (constant S_ .f32 0x00000000#32) reducesTo_S8x12x325x32_S8x12x325_d3 h_S_

/-- A row's sum over the samples, at an index. -/
theorem sumB_at (y : FVec Ideal S8x12x325x32 .f32) (e : Fin 8) (t : Fin 12) (i : Fin 325) :
    sumB y (ix3 e t i) = ∑ j : Fin 32, y (ix4 e t i j) := by
  pointwise [sumB]

/-- Softmax along the last axis, over the samples. -/
def softB (y : FVec Ideal S8x12x325x32 .f32) : FVec Ideal S8x12x325x32 .f32 :=
  Host.divf (Host.exp (subf y (layB (maxB y)))) (layB (sumB (Host.exp (subf y (layB (maxB y))))))

/-- An exponential of the softmax over the samples, at an index. -/
theorem expB_at (y : FVec Ideal S8x12x325x32 .f32) (e : Fin 8) (t : Fin 12) (i : Fin 325) (j : Fin 32) :
    Host.exp (subf y (layB (maxB y))) (ix4 e t i j) = Ideal.exp (y (ix4 e t i j) - top (fun j => y (ix4 e t i j))) :=
  congrArg (fun z => Ideal.exp (y (ix4 e t i j) - z)) ((layB_at _ e t i j).trans (maxB_at y e t i))

/-- The softmax over the samples, at an index. -/
theorem softB_at (y : FVec Ideal S8x12x325x32 .f32) (e : Fin 8) (t : Fin 12) (i : Fin 325) (j : Fin 32) :
    softB y (ix4 e t i j) = soft (fun j => y (ix4 e t i j)) j :=
  congrArg₂ Ideal.div (expB_at y e t i j)
    (((layB_at _ e t i j).trans (sumB_at _ e t i)).trans (Finset.sum_congr rfl fun k _ => expB_at y e t i k))

/-- The maximum with the least number laid everywhere, at an index. -/
theorem leastC_at (X : FVec Ideal S64x12x325 .f32) (e : Fin 64) (t : Fin 12) (i : Fin 325) :
    maximumf (broadcastInDim S64x12x325 ![] bcast_S_S64x12x325 (constant S_ .f32 0xFF800000#32)) X (ix3 e t i) = max (Ideal.ofBits .f32 0xFF800000#32) (X (ix3 e t i)) :=
  rfl

/-- The rows' largest entries, over the samples per head. -/
def maxC (y : FVec Ideal S64x12x325x32 .f32) : FVec Ideal S64x12x325 .f32 :=
  maximumf (broadcastInDim S64x12x325 ![] bcast_S_S64x12x325 (constant S_ .f32 0xFF800000#32))
    (Host.reduce FloatOps.maximumf y (constant S_ .f32 0xFF800000#32) reducesTo_S64x12x325x32_S64x12x325_d3 h_S_)

/-- A row's largest entry over the samples per head, at an index. -/
theorem maxC_at (y : FVec Ideal S64x12x325x32 .f32) (e : Fin 64) (t : Fin 12) (i : Fin 325) :
    maxC y (ix3 e t i) = top (fun j => y (ix4 e t i j)) := by
  unfold maxC
  rw [leastC_at, rowmax y reducesTo_S64x12x325x32_S64x12x325_d3 h_S_ e t i, max_top]

/-- One number a row laid over the row, over the samples per head. -/
def layC (m : FVec Ideal S64x12x325 .f32) : FVec Ideal S64x12x325x32 .f32 :=
  broadcastInDim S64x12x325x32 ![0, 1, 2, 3] bcast_S64x12x325x1_S64x12x325x32_0_1_2_3 (broadcastInDim S64x12x325x1 ![0, 1, 2] bcast_S64x12x325_S64x12x325x1_0_1_2 m)

/-- The laid number over the samples per head, at an index. -/
theorem layC_at (m : FVec Ideal S64x12x325 .f32) (e : Fin 64) (t : Fin 12) (i : Fin 325) (j : Fin 32) :
    layC m (ix4 e t i j) = m (ix3 e t i) := by
  pointwise [layC]

/-- The sums of the rows, over the samples per head. -/
def sumC (y : FVec Ideal S64x12x325x32 .f32) : FVec Ideal S64x12x325 .f32 :=
  Host.reduceAdd y (constant S_ .f32 0x00000000#32) reducesTo_S64x12x325x32_S64x12x325_d3 h_S_

/-- A row's sum over the samples per head, at an index. -/
theorem sumC_at (y : FVec Ideal S64x12x325x32 .f32) (e : Fin 64) (t : Fin 12) (i : Fin 325) :
    sumC y (ix3 e t i) = ∑ j : Fin 32, y (ix4 e t i j) := by
  pointwise [sumC]

/-- Softmax along the last axis, over the samples per head. -/
def softC (y : FVec Ideal S64x12x325x32 .f32) : FVec Ideal S64x12x325x32 .f32 :=
  Host.divf (Host.exp (subf y (layC (maxC y)))) (layC (sumC (Host.exp (subf y (layC (maxC y))))))

/-- An exponential of the softmax over the samples per head, at an index. -/
theorem expC_at (y : FVec Ideal S64x12x325x32 .f32) (e : Fin 64) (t : Fin 12) (i : Fin 325) (j : Fin 32) :
    Host.exp (subf y (layC (maxC y))) (ix4 e t i j) = Ideal.exp (y (ix4 e t i j) - top (fun j => y (ix4 e t i j))) :=
  congrArg (fun z => Ideal.exp (y (ix4 e t i j) - z)) ((layC_at _ e t i j).trans (maxC_at y e t i))

/-- The softmax over the samples per head, at an index. -/
theorem softC_at (y : FVec Ideal S64x12x325x32 .f32) (e : Fin 64) (t : Fin 12) (i : Fin 325) (j : Fin 32) :
    softC y (ix4 e t i j) = soft (fun j => y (ix4 e t i j)) j :=
  congrArg₂ Ideal.div (expC_at y e t i j)
    (((layC_at _ e t i j).trans (sumC_at _ e t i)).trans (Finset.sum_congr rfl fun k _ => expC_at y e t i k))

end Cert.ReferenceIdeal.Stage

end
-- ==== Proof.RefOps.lean ====
/- The reference's arithmetic stages, each over arbitrary arrays, read at an index as plain functions. -/
module

public import proofs.«01_k».proof.Proof.RefLayout

@[expose] public section

set_option maxRecDepth 16384

noncomputable section

namespace Cert.ReferenceIdeal.Stage

open Cert.ReferenceIdeal Cert.ReferenceIdeal.Gen Cert.ReferenceIdeal.Read Idealize.ShloMosaic Idealize.ShloMosaic.TcCoe Idealize.SL.Sem
open Cert.Attn (hd col top soft score mean)

/-- Scores of sampled queries against all keys, per head. -/
def scoreA (q : FVec Ideal S64x12x32x16 .f32) (k : FVec Ideal S64x12x325x16 .f32) : FVec Ideal S64x12x32x325 .f32 :=
  Host.divf (Host.dotGeneral dot_S64x12x32x16_S64x12x325x16_S64x12x32x325_3_3_2_2_01_01 none q k)
    (broadcastInDim S64x12x32x325 ![] bcast_S_S64x12x32x325 (constant S_ .f32 0x40800000#32))

/-- Those scores, at an index. -/
theorem scoreA_at (q : FVec Ideal S64x12x32x16 .f32) (k : FVec Ideal S64x12x325x16 .f32) (e : Fin 64) (t : Fin 12) (s : Fin 32) (n : Fin 325) :
    scoreA q k (ix4 e t s n) = score (fun d => q (ix4 e t s d)) (fun d => k (ix4 e t n d)) := by
  pointwise [scoreA, score]

/-- Scores of all queries against the sampled keys. -/
def scoreB (q : FVec Ideal S8x12x325x128 .f32) (k : FVec Ideal S8x12x32x128 .f32) : FVec Ideal S8x12x325x32 .f32 :=
  Host.divf (Host.dotGeneral dot_S8x12x325x128_S8x12x32x128_S8x12x325x32_3_3_2_2_01_01 none q k)
    (broadcastInDim S8x12x325x32 ![] bcast_S_S8x12x325x32 (constant S_ .f32 0x40800000#32))

/-- Those scores, at an index. -/
theorem scoreB_at (q : FVec Ideal S8x12x325x128 .f32) (k : FVec Ideal S8x12x32x128 .f32) (b : Fin 8) (t : Fin 12) (n : Fin 325) (s : Fin 32) :
    scoreB q k (ix4 b t n s) = score (fun c => q (ix4 b t n c)) (fun c => k (ix4 b t s c)) := by
  pointwise [scoreB, score]

/-- Scores of all queries against the sampled rows, per head. -/
def scoreC (q : FVec Ideal S64x12x325x16 .f32) (k : FVec Ideal S64x12x32x16 .f32) : FVec Ideal S64x12x325x32 .f32 :=
  Host.divf (Host.dotGeneral dot_S64x12x325x16_S64x12x32x16_S64x12x325x32_3_3_2_2_01_01 none q k)
    (broadcastInDim S64x12x325x32 ![] bcast_S_S64x12x325x32 (constant S_ .f32 0x40800000#32))

/-- Those scores, at an index. -/
theorem scoreC_at (q : FVec Ideal S64x12x325x16 .f32) (k : FVec Ideal S64x12x32x16 .f32) (e : Fin 64) (t : Fin 12) (n : Fin 325) (s : Fin 32) :
    scoreC q k (ix4 e t n s) = score (fun d => q (ix4 e t n d)) (fun d => k (ix4 e t s d)) := by
  pointwise [scoreC, score]

/-- Values weighted over the nodes, per head. -/
def applyA (p : FVec Ideal S64x12x32x325 .f32) (v : FVec Ideal S64x12x325x16 .f32) : FVec Ideal S64x12x32x16 .f32 :=
  Host.dotGeneral dot_S64x12x32x325_S64x12x325x16_S64x12x32x16_3_2_2_3_01_01 none p v

/-- Weighted values, at an index. -/
theorem applyA_at (p : FVec Ideal S64x12x32x325 .f32) (v : FVec Ideal S64x12x325x16 .f32) (e : Fin 64) (t : Fin 12) (s : Fin 32) (d : Fin 16) :
    applyA p v (ix4 e t s d) = ∑ n : Fin 325, p (ix4 e t s n) * v (ix4 e t n d) := by
  pointwise [applyA]

/-- Sampled values weighted, per head. -/
def applyC (p : FVec Ideal S64x12x325x32 .f32) (v : FVec Ideal S64x12x32x16 .f32) : FVec Ideal S64x12x325x16 .f32 :=
  Host.dotGeneral dot_S64x12x325x32_S64x12x32x16_S64x12x325x16_3_2_2_3_01_01 none p v

/-- Weighted sampled values, at an index. -/
theorem applyC_at (p : FVec Ideal S64x12x325x32 .f32) (v : FVec Ideal S64x12x32x16 .f32) (e : Fin 64) (t : Fin 12) (n : Fin 325) (d : Fin 16) :
    applyC p v (ix4 e t n d) = ∑ s : Fin 32, p (ix4 e t n s) * v (ix4 e t s d) := by
  pointwise [applyC]

/-- The affine map of the 32 sampled rows. -/
def linS (x : FVec Ideal S8x12x32x128 .f32) (W : FVec Ideal S128x128 .f32) (b : FVec Ideal S128 .f32) : FVec Ideal S8x12x32x128 .f32 :=
  addf (Host.dotGeneral dot_S8x12x32x128_S128x128_S8x12x32x128_3_0_012_1_n_n none x W)
    (broadcastInDim S8x12x32x128 ![0, 1, 2, 3] bcast_S1x1x1x128_S8x12x32x128_0_1_2_3 (broadcastInDim S1x1x1x128 ![3] bcast_S128_S1x1x1x128_3 b))

/-- The affine map of the sampled rows, at an index. -/
theorem linS_at (x : FVec Ideal S8x12x32x128 .f32) (W : FVec Ideal S128x128 .f32) (b : FVec Ideal S128 .f32) (p : Fin 8) (t : Fin 12) (s : Fin 32) (c : Fin 128) :
    linS x W b (ix4 p t s c) = (∑ j : Fin 128, x (ix4 p t s j) * W (ix2 j c)) + b (ix1 c) := by
  pointwise [linS]

/-- A row vector laid over every row of the 325. -/
def over (b : FVec Ideal S128 .f32) : FVec Ideal S8x12x325x128 .f32 :=
  broadcastInDim S8x12x325x128 ![0, 1, 2, 3] bcast_S1x1x1x128_S8x12x325x128_0_1_2_3 (broadcastInDim S1x1x1x128 ![3] bcast_S128_S1x1x1x128_3 b)

/-- That row vector, at an index. -/
theorem over_at (b : FVec Ideal S128 .f32) (p : Fin 8) (t : Fin 12) (n : Fin 325) (c : Fin 128) : over b (ix4 p t n c) = b (ix1 c) := by
  pointwise [over]

/-- The affine map of the 325 rows. -/
def linN (x : FVec Ideal S8x12x325x128 .f32) (W : FVec Ideal S128x128 .f32) (b : FVec Ideal S128 .f32) : FVec Ideal S8x12x325x128 .f32 :=
  addf (Host.dotGeneral dot_S8x12x325x128_S128x128_S8x12x325x128_3_0_012_1_n_n none x W) (over b)

/-- The affine map of the 325 rows, at an index. -/
theorem linN_at (x : FVec Ideal S8x12x325x128 .f32) (W : FVec Ideal S128x128 .f32) (b : FVec Ideal S128 .f32) (p : Fin 8) (t : Fin 12) (n : Fin 325) (c : Fin 128) :
    linN x W b (ix4 p t n c) = (∑ j : Fin 128, x (ix4 p t n j) * W (ix2 j c)) + b (ix1 c) := by
  pointwise [linN, over_at]

/-- The means of the rows. -/
def meanN (x : FVec Ideal S8x12x325x128 .f32) : FVec Ideal S8x12x325x1 .f32 :=
  Host.divf (broadcastInDim S8x12x325x1 ![0, 1, 2] bcast_S8x12x325_S8x12x325x1_0_1_2
    (Host.reduceAdd x (constant S_ .f32 0x00000000#32) reducesTo_S8x12x325x128_S8x12x325_d3 h_S_))
    (broadcastInDim S8x12x325x1 ![] bcast_S_S8x12x325x1 (constant S_ .f32 0x43000000#32))

/-- A row's mean, at an index. -/
theorem meanN_at (x : FVec Ideal S8x12x325x128 .f32) (p : Fin 8) (t : Fin 12) (n : Fin 325) :
    meanN x (ix4 p t n 0) = mean (fun c => x (ix4 p t n c)) := by
  pointwise [meanN, mean]

/-- Rows less their means. -/
def centN (x : FVec Ideal S8x12x325x128 .f32) : FVec Ideal S8x12x325x128 .f32 :=
  subf x (broadcastInDim S8x12x325x128 ![0, 1, 2, 3] bcast_S8x12x325x1_S8x12x325x128_0_1_2_3 (meanN x))

/-- A row less its mean, at an index. -/
theorem centN_at (x : FVec Ideal S8x12x325x128 .f32) (p : Fin 8) (t : Fin 12) (n : Fin 325) (c : Fin 128) :
    centN x (ix4 p t n c) = x (ix4 p t n c) - mean (fun c => x (ix4 p t n c)) := by
  pointwise [centN, meanN_at]

/-- The number of columns, less no correction. -/
def width : FVec Ideal S_ .f32 := subf (constant S_ .f32 0x43000000#32) (sitofp .f32 (constantI S_ 32 0#32))

/-- The variances of the rows, where the divisor is positive. -/
def varN (x : FVec Ideal S8x12x325x128 .f32) : FVec Ideal S8x12x325x1 .f32 :=
  select (broadcastInDim S8x12x325x1 ![] bcast_S_S8x12x325x1 (cmpf .ogt width (constant S_ .f32 0x00000000#32)))
    (Host.divf (broadcastInDim S8x12x325x1 ![0, 1, 2] bcast_S8x12x325_S8x12x325x1_0_1_2
      (Host.reduceAdd (mulf (centN x) (centN x)) (constant S_ .f32 0x00000000#32) reducesTo_S8x12x325x128_S8x12x325_d3 h_S_))
      (broadcastInDim S8x12x325x1 ![] bcast_S_S8x12x325x1 width))
    (broadcastInDim S8x12x325x1 ![] bcast_S_S8x12x325x1 (id (constant S_ .f32 0x7FC00000#32)))

/-- The number of columns is positive. -/
theorem columns_pos : 0 < Ideal.ofBits .f32 0x43000000#32 := by
  have h : Ideal.ofBits .f32 0x43000000#32 = ((128 : ℝ) : EReal) := by
    simp [Ideal.ofBits, Ideal.ieee, -EReal.coe_mul]
    norm_num
  rw [h]
  exact_mod_cast (by norm_num : (0 : ℝ) < 128)

/-- The divisor is the number of columns. -/
theorem width_at (i : S_.Idx) : width i = Ideal.ofBits .f32 0x43000000#32 := by
  show Ideal.ofBits .f32 0x43000000#32 - (((0#32 : BitVec 32).toInt : ℝ) : EReal) = _
  simp

/-- A row's variance, at an index. -/
theorem varN_at (x : FVec Ideal S8x12x325x128 .f32) (p : Fin 8) (t : Fin 12) (n : Fin 325) :
    varN x (ix4 p t n 0) = mean (fun c => (x (ix4 p t n c) - mean (fun c => x (ix4 p t n c))) * (x (ix4 p t n c) - mean (fun c => x (ix4 p t n c)))) := by
  pointwise [varN, mean, centN_at, width_at]
  exact if_pos columns_pos

/-- Rows less their means over the roots of their variances and a small constant. -/
def normN (x : FVec Ideal S8x12x325x128 .f32) : FVec Ideal S8x12x325x128 .f32 :=
  Host.divf (centN x) (broadcastInDim S8x12x325x128 ![0, 1, 2, 3] bcast_S8x12x325x1_S8x12x325x128_0_1_2_3
    (Host.sqrt (addf (varN x) (broadcastInDim S8x12x325x1 ![] bcast_S_S8x12x325x1 (constant S_ .f32 0x3727C5AC#32)))))

/-- A normalized row, at an index. -/
theorem normN_at (x : FVec Ideal S8x12x325x128 .f32) (p : Fin 8) (t : Fin 12) (n : Fin 325) (c : Fin 128) :
    normN x (ix4 p t n c) = Cert.Attn.norm (fun c => x (ix4 p t n c)) c := by
  pointwise [normN, centN_at, varN_at, Cert.Attn.norm]

/-- The feed-forward layer's first half: an affine map and the positive part. -/
def hidN (x : FVec Ideal S8x12x325x128 .f32) (W : FVec Ideal S128x128 .f32) (b : FVec Ideal S128 .f32) : FVec Ideal S8x12x325x128 .f32 :=
  maximumf (linN x W b) (broadcastInDim S8x12x325x128 ![] bcast_S_S8x12x325x128 (constant S_ .f32 0x00000000#32))

/-- The hidden row, at an index. -/
theorem hidN_at (x : FVec Ideal S8x12x325x128 .f32) (W : FVec Ideal S128x128 .f32) (b : FVec Ideal S128 .f32) (p : Fin 8) (t : Fin 12) (n : Fin 325) (c : Fin 128) :
    hidN x W b (ix4 p t n c) = max ((∑ j : Fin 128, x (ix4 p t n j) * W (ix2 j c)) + b (ix1 c)) 0 := by
  pointwise [hidN, linN_at]

end Cert.ReferenceIdeal.Stage

end
-- ==== Proof.RefAttn.lean ====
/- The reference's attention stages over its arguments, read at an index as the plain functions of one batch and time step. -/
module

public import proofs.«01_k».proof.Proof.RefSoft
public import proofs.«01_k».proof.Proof.RefOps

@[expose] public section

set_option maxRecDepth 16384

noncomputable section

namespace Cert.ReferenceIdeal.Stage

open Cert.ReferenceIdeal Cert.ReferenceIdeal.Gen Cert.ReferenceIdeal.Read Idealize.ShloMosaic Idealize.ShloMosaic.TcCoe Idealize.SL.Sem
open Cert.Attn (hd col top soft score mean pick vals proj back lin Weights mid ffn out)

/-- The node a sample entry names. -/
def num (x : FVec Ideal S64x12x32 .f32) (e : Fin 64) (t : Fin 12) (s : Fin 32) : Fin 325 :=
  ⟨(Ideal.fptosi 32 (x (ix3 e t s))).toNat % 325, by omega⟩

/-- Every sample entry's integer is a node number. -/
def Nodes (x : FVec Ideal S64x12x32 .f32) : Prop :=
  ∀ e t s, Ideal.fptosi 32 (x (ix3 e t s)) = BitVec.ofNat 32 (num x e t s).val

/-- A number below two to the thirty-first is not below zero as a signed word. -/
theorem not_slt (n : ℕ) (hn : n < 325) : (BitVec.ofNat 32 n).slt 0#32 = false := by
  rw [BitVec.slt_eq_decide, decide_eq_false_iff_not, BitVec.toInt_eq_toNat_cond, BitVec.toNat_ofNat]
  simp only [BitVec.toInt_zero]
  split_ifs <;> omega

/-- Choosing between a wrapped and a plain index keeps a small number. -/
theorem unwrapped (n : ℕ) (hn : n < 325) (a : BitVec 32) :
    Scalar.select (IntOp.cmpi .slt (BitVec.ofNat 32 n) 0#32) a (BitVec.ofNat 32 n) = BitVec.ofNat 32 n := by
  have h : IntOp.cmpi .slt (BitVec.ofNat 32 n) 0#32 = BitVec.ofBool ((BitVec.ofNat 32 n).slt 0#32) := rfl
  rw [h, not_slt n hn]
  rfl

/-- The first address: the stacked index itself. -/
theorem addr0 (x : FVec Ideal S64x12x32 .f32) (e : Fin 64) (t : Fin 12) (s : Fin 32) :
    val_main_v55 (F := Ideal) x (ix4 e t s 0) = BitVec.ofNat 32 e.val := by
  pointwise [val_main_v55, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_c, val_main_c_0, val_main_c_1, val_main_c_2, val_main_c_3, val_main_c_4]
  exact unwrapped _ (by omega) _

/-- The second address: the time step. -/
theorem addr1 (x : FVec Ideal S64x12x32 .f32) (e : Fin 64) (t : Fin 12) (s : Fin 32) :
    val_main_v55 (F := Ideal) x (ix4 e t s 1) = BitVec.ofNat 32 t.val := by
  pointwise [val_main_v55, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_c, val_main_c_0, val_main_c_1, val_main_c_2, val_main_c_3, val_main_c_4]
  exact unwrapped _ (by omega) _

/-- The third address: the sampled node. -/
theorem addr2 (x : FVec Ideal S64x12x32 .f32) (hx : Nodes x) (e : Fin 64) (t : Fin 12) (s : Fin 32) :
    val_main_v55 (F := Ideal) x (ix4 e t s 2) = BitVec.ofNat 32 (num x e t s).val := by
  pointwise [val_main_v55, val_main_v3, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_c, val_main_c_0, val_main_c_1, val_main_c_2, val_main_c_3, val_main_c_4]
  have h : FloatOps.fptosi 32 (x (ix3 e t s)) = BitVec.ofNat 32 (num x e t s).val := hx e t s
  rw [h]
  exact unwrapped _ (num x e t s).isLt _

/-- The stacked index of a stacked index's own head and batch. -/
theorem stk_self (e : Fin 64) : stk (hed e) (bat e) = e := Fin.ext (by simp only [stk, hed, bat]; omega)

/-- The rows of one batch and time step. -/
abbrev rows (x : FVec Ideal S31200x128 .f32) (b : Fin 8) (t : Fin 12) (n : Fin 325) (c : Fin 128) : EReal := x (ix2 (row b t n) c)

/-- The sampled nodes of one batch and time step. -/
abbrev smp (x : FVec Ideal S64x12x32 .f32) (b : Fin 8) (t : Fin 12) (s : Fin 32) (h : Fin 8) : Fin 325 := num x (stk h b) t s

/-- The sampled rows of every head. -/
def gat (x : FVec Ideal S31200x128 .f32) (x3 : FVec Ideal S64x12x32 .f32) : FVec Ideal S64x12x32x16 .f32 :=
  Host.gather GD (val_main_v12 (F := Ideal) x) (val_main_v55 (F := Ideal) x3)

/-- A sampled row, at an index. -/
theorem gat_at (x : FVec Ideal S31200x128 .f32) (x3 : FVec Ideal S64x12x32 .f32) (hx : Nodes x3) (e : Fin 64) (t : Fin 12) (s : Fin 32) (d : Fin 16) :
    gat x x3 (ix4 e t s d) = rows x (bat e) t (num x3 e t s) (col (hed e) d) := by
  rw [gat, gather_at _ _ e t s d (num x3 e t s) (addr0 x3 e t s) (addr1 x3 e t s) (addr2 x3 hx e t s), split_at]

/-- A sampled row of one head, as picked from the batch's rows. -/
theorem gat_stk (x : FVec Ideal S31200x128 .f32) (x3 : FVec Ideal S64x12x32 .f32) (hx : Nodes x3) (h : Fin 8) (b : Fin 8) (t : Fin 12) (s : Fin 32) (d : Fin 16) :
    gat x x3 (ix4 (stk h b) t s d) = pick (rows x b t) (smp x3 b t) s (col h d) := by
  rw [gat_at x x3 hx, bat_stk, hed_stk, pick, hd_col]

/-- The rows of one head. -/
theorem split_stk (x : FVec Ideal S31200x128 .f32) (h : Fin 8) (b : Fin 8) (t : Fin 12) (n : Fin 325) (d : Fin 16) :
    val_main_v12 (F := Ideal) x (ix4 (stk h b) t n d) = rows x b t n (col h d) := by
  rw [split_at, bat_stk, hed_stk]

/-- The sampled rows with the heads joined. -/
theorem gat_joined (x : FVec Ideal S31200x128 .f32) (x3 : FVec Ideal S64x12x32 .f32) (hx : Nodes x3) (b : Fin 8) (t : Fin 12) (s : Fin 32) (c : Fin 128) :
    mergeS (gat x x3) (ix4 b t s c) = pick (rows x b t) (smp x3 b t) s c := by
  rw [mergeS_at, gat_stk x x3 hx, col_lane]

/-- The first attention with the heads joined. -/
def refVals (x0 x1 x2 : FVec Ideal S31200x128 .f32) (x3 : FVec Ideal S64x12x32 .f32) : FVec Ideal S8x12x32x128 .f32 :=
  mergeS (applyA (softA (scoreA (gat x0 x3) (val_main_v12 (F := Ideal) x1))) (val_main_v12 (F := Ideal) x2))

/-- The first attention, at an index. -/
theorem refVals_at (x0 x1 x2 : FVec Ideal S31200x128 .f32) (x3 : FVec Ideal S64x12x32 .f32) (hx : Nodes x3) (b : Fin 8) (t : Fin 12) (s : Fin 32) (c : Fin 128) :
    refVals x0 x1 x2 x3 (ix4 b t s c) = vals (rows x0 b t) (rows x1 b t) (rows x2 b t) (smp x3 b t) s c := by
  rw [refVals, mergeS_at, applyA_at, vals]
  simp only [softA_at, scoreA_at, gat_stk x0 x3 hx, split_stk, col_lane]

/-- The sampling projector. -/
def refProj (x0 x1 : FVec Ideal S31200x128 .f32) (x3 : FVec Ideal S64x12x32 .f32) : FVec Ideal S8x12x325x32 .f32 :=
  softB (scoreB (val_main_v0 (F := Ideal) x0) (mergeS (gat x1 x3)))

/-- The sampling projector, at an index. -/
theorem refProj_at (x0 x1 : FVec Ideal S31200x128 .f32) (x3 : FVec Ideal S64x12x32 .f32) (hx : Nodes x3) (b : Fin 8) (t : Fin 12) (n : Fin 325) (s : Fin 32) :
    refProj x0 x1 x3 (ix4 b t n s) = proj (rows x0 b t) (rows x1 b t) (smp x3 b t) n s := by
  rw [refProj, softB_at, proj]
  simp only [scoreB_at, v0_at, gat_joined x1 x3 hx]

/-- The second attention with the heads joined. -/
def refBack (x0 : FVec Ideal S31200x128 .f32) (sk sv : FVec Ideal S8x12x32x128 .f32) : FVec Ideal S8x12x325x128 .f32 :=
  mergeN (applyC (softC (scoreC (val_main_v12 (F := Ideal) x0) (splitS sk))) (splitS sv))

/-- The second attention, at an index. -/
theorem refBack_at (x0 : FVec Ideal S31200x128 .f32) (sk sv : FVec Ideal S8x12x32x128 .f32) (b : Fin 8) (t : Fin 12) (n : Fin 325) (c : Fin 128) :
    refBack x0 sk sv (ix4 b t n c) = back (rows x0 b t) (fun s c => sk (ix4 b t s c)) (fun s c => sv (ix4 b t s c)) n c := by
  rw [refBack, mergeN_at, applyC_at, back]
  simp only [softC_at, scoreC_at, split_stk, splitS_at, bat_stk, hed_stk, col_lane]

end Cert.ReferenceIdeal.Stage

end
-- ==== Proof.RefOut.lean ====
/- The reference's results as its named stages, and read at an index as the plain functions of one batch and time step. -/
module

public import proofs.«01_k».proof.Proof.RefAttn

@[expose] public section

set_option maxRecDepth 16384

noncomputable section

namespace Cert.ReferenceIdeal.Stage

open Cert.ReferenceIdeal Cert.ReferenceIdeal.Gen Cert.ReferenceIdeal.Read Idealize.ShloMosaic Idealize.ShloMosaic.TcCoe Idealize.SL.Sem
open Cert.Attn (hd col top soft score mean pick vals proj back lin Weights mid ffn out)

section
variable (x0 x1 x2 : FVec Ideal S31200x128 .f32) (x3 : FVec Ideal S64x12x32 .f32) (x4 : FVec Ideal S128x128 .f32) (x5 : FVec Ideal S128 .f32)
  (x6 : FVec Ideal S128x128 .f32) (x7 : FVec Ideal S128 .f32) (x8 : FVec Ideal S128x128 .f32) (x9 x10 x11 : FVec Ideal S128 .f32)
  (x12 : FVec Ideal S128x128 .f32) (x13 : FVec Ideal S128 .f32) (x14 : FVec Ideal S128x128 .f32) (x15 : FVec Ideal S128 .f32)

/-- The weights, by rows and columns. -/
def wts : Weights where
  Wo := fun i j => x4 (ix2 i j)
  Wsk := fun i j => x6 (ix2 i j)
  Wsv := fun i j => x8 (ix2 i j)
  W1 := fun i j => x12 (ix2 i j)
  W2 := fun i j => x14 (ix2 i j)
  bo := fun j => x5 (ix1 j)
  bsk := fun j => x7 (ix1 j)
  bsv := fun j => x9 (ix1 j)
  g := fun j => x10 (ix1 j)
  b := fun j => x11 (ix1 j)
  b1 := fun j => x13 (ix1 j)
  b2 := fun j => x15 (ix1 j)

/-- The rows after the second attention, the output map, normalization, scale and shift. -/
def refMid : FVec Ideal S8x12x325x128 .f32 :=
  addf (mulf (normN (linN (refBack x0 (linS (mergeS (gat x0 x3)) x6 x7) (linS (refVals x0 x1 x2 x3) x8 x9)) x4 x5)) (over x10)) (over x11)

/-- Those rows, at an index. -/
theorem refMid_at (hx : Nodes x3) (b : Fin 8) (t : Fin 12) (n : Fin 325) (c : Fin 128) :
    refMid x0 x1 x2 x3 x4 x5 x6 x7 x8 x9 x10 x11 (ix4 b t n c)
      = mid (wts x4 x5 x6 x7 x8 x9 x10 x11 x12 x13 x14 x15) (rows x0 b t) (rows x1 b t) (rows x2 b t) (smp x3 b t) n c := by
  show normN _ (ix4 b t n c) * over x10 (ix4 b t n c) + over x11 (ix4 b t n c) = _
  rw [normN_at, over_at, over_at]
  simp only [linN_at, refBack_at, linS_at, gat_joined x0 x3 hx, refVals_at x0 x1 x2 x3 hx]
  rfl

/-- The output rows. -/
def refOut : FVec Ideal S8x12x325x128 .f32 :=
  normN (addf (refMid x0 x1 x2 x3 x4 x5 x6 x7 x8 x9 x10 x11) (linN (hidN (refMid x0 x1 x2 x3 x4 x5 x6 x7 x8 x9 x10 x11) x12 x13) x14 x15))

/-- The output rows, at an index. -/
theorem refOut_at (hx : Nodes x3) (b : Fin 8) (t : Fin 12) (n : Fin 325) (c : Fin 128) :
    refOut x0 x1 x2 x3 x4 x5 x6 x7 x8 x9 x10 x11 x12 x13 x14 x15 (ix4 b t n c)
      = out (wts x4 x5 x6 x7 x8 x9 x10 x11 x12 x13 x14 x15) (rows x0 b t) (rows x1 b t) (rows x2 b t) (smp x3 b t) n c := by
  rw [refOut, normN_at, out]
  refine congrFun (congrArg Cert.Attn.norm (funext fun c => ?_)) c
  show refMid x0 x1 x2 x3 x4 x5 x6 x7 x8 x9 x10 x11 (ix4 b t n c) + linN _ x14 x15 (ix4 b t n c) = _
  rw [linN_at]
  simp only [hidN_at, refMid_at x0 x1 x2 x3 x4 x5 x6 x7 x8 x9 x10 x11 x12 x13 x14 x15 hx]
  rfl

/-- The reference's sampled queries. -/
theorem v56_eq : val_main_v56 (F := Ideal) x0 x3 = gat x0 x3 := rfl

/-- The reference's sampled keys: its second set of addresses is its first. -/
theorem v111_eq : val_main_v111 (F := Ideal) x1 x3 = gat x1 x3 := rfl

/-- The reference's scores of sampled queries. -/
theorem v59_eq : val_main_v59 (F := Ideal) x0 x1 x3 = scoreA (gat x0 x3) (val_main_v12 (F := Ideal) x1) := rfl

/-- The reference's first softmax. -/
theorem v70_eq : val_main_v70 (F := Ideal) x0 x1 x3 = softA (val_main_v59 (F := Ideal) x0 x1 x3) := rfl

/-- The reference's first attention. -/
theorem v71_eq : val_main_v71 (F := Ideal) x0 x1 x2 x3 = applyA (val_main_v70 (F := Ideal) x0 x1 x3) (val_main_v30 (F := Ideal) x2) := rfl

/-- The reference's first attention, joined. -/
theorem v80_eq : val_main_v80 (F := Ideal) x0 x1 x2 x3 = refVals x0 x1 x2 x3 := by
  have h : val_main_v80 (F := Ideal) x0 x1 x2 x3 = mergeS (val_main_v71 (F := Ideal) x0 x1 x2 x3) := rfl
  rw [h, v71_eq, v70_eq, v59_eq, v30_eq, refVals]

/-- The reference's sampled queries, joined. -/
theorem v89_eq : val_main_v89 (F := Ideal) x0 x3 = mergeS (gat x0 x3) := by
  have h : val_main_v89 (F := Ideal) x0 x3 = mergeS (val_main_v56 (F := Ideal) x0 x3) := rfl
  rw [h, v56_eq]

/-- The reference's sampling projector. -/
theorem v134_eq : val_main_v134 (F := Ideal) x0 x1 x3 = refProj x0 x1 x3 := by
  have h : val_main_v134 (F := Ideal) x0 x1 x3 = softB (val_main_v123 (F := Ideal) x0 x1 x3) := rfl
  have h' : val_main_v123 (F := Ideal) x0 x1 x3 = scoreB (val_main_v0 (F := Ideal) x0) (val_main_v120 (F := Ideal) x1 x3) := rfl
  have h'' : val_main_v120 (F := Ideal) x1 x3 = mergeS (val_main_v111 (F := Ideal) x1 x3) := rfl
  rw [h, h', h'', v111_eq, refProj]

/-- The reference's second attention, joined. -/
theorem v184_eq : val_main_v184 (F := Ideal) x0 x1 x2 x3 x6 x7 x8 x9
    = refBack x0 (linS (mergeS (gat x0 x3)) x6 x7) (linS (refVals x0 x1 x2 x3) x8 x9) := by
  have h : val_main_v184 (F := Ideal) x0 x1 x2 x3 x6 x7 x8 x9 = mergeN (val_main_v175 (F := Ideal) x0 x1 x2 x3 x6 x7 x8 x9) := rfl
  have h' : val_main_v175 (F := Ideal) x0 x1 x2 x3 x6 x7 x8 x9
      = applyC (val_main_v174 (F := Ideal) x0 x3 x6 x7) (val_main_v160 (F := Ideal) x0 x1 x2 x3 x8 x9) := rfl
  have h1 : val_main_v174 (F := Ideal) x0 x3 x6 x7 = softC (val_main_v163 (F := Ideal) x0 x3 x6 x7) := rfl
  have h2 : val_main_v163 (F := Ideal) x0 x3 x6 x7 = scoreC (val_main_v12 (F := Ideal) x0) (val_main_v147 (F := Ideal) x0 x3 x6 x7) := rfl
  have h3 : val_main_v147 (F := Ideal) x0 x3 x6 x7 = splitS (val_main_v138 (F := Ideal) x0 x3 x6 x7) := rfl
  have h4 : val_main_v138 (F := Ideal) x0 x3 x6 x7 = linS (val_main_v89 (F := Ideal) x0 x3) x6 x7 := rfl
  have h5 : val_main_v160 (F := Ideal) x0 x1 x2 x3 x8 x9 = splitS (val_main_v151 (F := Ideal) x0 x1 x2 x3 x8 x9) := rfl
  have h6 : val_main_v151 (F := Ideal) x0 x1 x2 x3 x8 x9 = linS (val_main_v80 (F := Ideal) x0 x1 x2 x3) x8 x9 := rfl
  rw [h, h', h1, h2, h3, h4, h5, h6, v89_eq, v80_eq, refBack]

/-- The reference's rows before the feed-forward layer. -/
theorem v206_eq : val_main_v206 (F := Ideal) x0 x1 x2 x3 x4 x5 x6 x7 x8 x9 x10 x11 = refMid x0 x1 x2 x3 x4 x5 x6 x7 x8 x9 x10 x11 := by
  have h : val_main_v206 (F := Ideal) x0 x1 x2 x3 x4 x5 x6 x7 x8 x9 x10 x11
      = addf (mulf (val_main_v200 (F := Ideal) x0 x1 x2 x3 x4 x5 x6 x7 x8 x9) (over x10)) (over x11) := rfl
  have h1 : val_main_v200 (F := Ideal) x0 x1 x2 x3 x4 x5 x6 x7 x8 x9 = normN (val_main_v188 (F := Ideal) x0 x1 x2 x3 x4 x5 x6 x7 x8 x9) := rfl
  have h2 : val_main_v188 (F := Ideal) x0 x1 x2 x3 x4 x5 x6 x7 x8 x9 = linN (val_main_v184 (F := Ideal) x0 x1 x2 x3 x6 x7 x8 x9) x4 x5 := rfl
  rw [h, h1, h2, v184_eq, refMid]

/-- The reference's output rows. -/
theorem v228_eq : val_main_v228 (F := Ideal) x0 x1 x2 x3 x4 x5 x6 x7 x8 x9 x10 x11 x12 x13 x14 x15
    = refOut x0 x1 x2 x3 x4 x5 x6 x7 x8 x9 x10 x11 x12 x13 x14 x15 := by
  have h : val_main_v228 (F := Ideal) x0 x1 x2 x3 x4 x5 x6 x7 x8 x9 x10 x11 x12 x13 x14 x15
      = normN (val_main_v216 (F := Ideal) x0 x1 x2 x3 x4 x5 x6 x7 x8 x9 x10 x11 x12 x13 x14 x15) := rfl
  have h1 : val_main_v216 (F := Ideal) x0 x1 x2 x3 x4 x5 x6 x7 x8 x9 x10 x11 x12 x13 x14 x15
      = addf (val_main_v206 (F := Ideal) x0 x1 x2 x3 x4 x5 x6 x7 x8 x9 x10 x11)
          (linN (val_main_v211 (F := Ideal) x0 x1 x2 x3 x4 x5 x6 x7 x8 x9 x10 x11 x12 x13) x14 x15) := rfl
  have h2 : val_main_v211 (F := Ideal) x0 x1 x2 x3 x4 x5 x6 x7 x8 x9 x10 x11 x12 x13
      = hidN (val_main_v206 (F := Ideal) x0 x1 x2 x3 x4 x5 x6 x7 x8 x9 x10 x11) x12 x13 := rfl
  rw [h, h1, h2, v206_eq, refOut]

/-- The batch of a grid row. -/
def pb (p : Fin 96) : Fin 8 := ⟨p.val / 12, by omega⟩

/-- The time step of a grid row. -/
def pt (p : Fin 96) : Fin 12 := ⟨p.val % 12, by omega⟩

/-- Laying batches and time steps in one axis, for the output rows. -/
theorem flatN_at (y : FVec Ideal S8x12x325x128 .f32) (p : Fin 96) (n : Fin 325) (c : Fin 128) :
    shapeCast S96x325x128 y shapeCasts_S8x12x325x128_S96x325x128 (ix3 p n c) = y (ix4 (pb p) (pt p) n c) := by
  pointwise [pb, pt]

/-- The same for the projector. -/
theorem flatP_at (y : FVec Ideal S8x12x325x32 .f32) (p : Fin 96) (n : Fin 325) (s : Fin 32) :
    shapeCast S96x325x32 y shapeCasts_S8x12x325x32_S96x325x32 (ix3 p n s) = y (ix4 (pb p) (pt p) n s) := by
  pointwise [pb, pt]

/-- The same for the sampled values. -/
theorem flatS_at (y : FVec Ideal S8x12x32x128 .f32) (p : Fin 96) (s : Fin 32) (c : Fin 128) :
    shapeCast S96x32x128 y shapeCasts_S8x12x32x128_S96x32x128 (ix3 p s c) = y (ix4 (pb p) (pt p) s c) := by
  pointwise [pb, pt]

/-- The first result, at an index. -/
theorem v229_at (hx : Nodes x3) (p : Fin 96) (n : Fin 325) (c : Fin 128) :
    val_main_v229 (F := Ideal) x0 x1 x2 x3 x4 x5 x6 x7 x8 x9 x10 x11 x12 x13 x14 x15 (ix3 p n c)
      = out (wts x4 x5 x6 x7 x8 x9 x10 x11 x12 x13 x14 x15) (rows x0 (pb p) (pt p)) (rows x1 (pb p) (pt p)) (rows x2 (pb p) (pt p)) (smp x3 (pb p) (pt p)) n c := by
  rw [val_main_v229, flatN_at, v228_eq, refOut_at _ _ _ _ _ _ _ _ _ _ _ _ _ _ _ _ hx]

/-- The second result, at an index. -/
theorem v230_at (hx : Nodes x3) (p : Fin 96) (n : Fin 325) (s : Fin 32) :
    val_main_v230 (F := Ideal) x0 x1 x3 (ix3 p n s)
      = proj (rows x0 (pb p) (pt p)) (rows x1 (pb p) (pt p)) (smp x3 (pb p) (pt p)) n s := by
  rw [val_main_v230, flatP_at, v134_eq, refProj_at _ _ _ hx]

/-- The third result, at an index. -/
theorem v231_at (hx : Nodes x3) (p : Fin 96) (s : Fin 32) (c : Fin 128) :
    val_main_v231 (F := Ideal) x0 x1 x2 x3 (ix3 p s c)
      = vals (rows x0 (pb p) (pt p)) (rows x1 (pb p) (pt p)) (rows x2 (pb p) (pt p)) (smp x3 (pb p) (pt p)) s c := by
  rw [val_main_v231, flatS_at, v80_eq, refVals_at _ _ _ _ hx]

end

end Cert.ReferenceIdeal.Stage

end
-- ==== Proof.AttnEntry.lean ====
/- What the attention call's blocks hold at a grid point, over the arguments. -/
module

public import proofs.«01_k».proof.Defs
public import proofs.«01_k».proof.Proof.KernelBlocks
public import proofs.«01_k».proof.Proof.RefOut
public import Idealize.ShloMosaic.Lib.Pipeline.ValueKit

@[expose] public section

set_option maxRecDepth 16384

noncomputable section

namespace Cert.KernelIdeal.Value

open Cert.KernelIdeal Cert.KernelIdeal.Gen Cert.KernelIdeal.Block Idealize.ShloMosaic Idealize.ShloMosaic.TcCoe Idealize.SL.Sem
open Idealize.ShloMosaic.Pipeline (Dat)
open Cert.Attn (pick vals proj back Weights mid ffn out)
open Cert.ReferenceIdeal.Stage (num Nodes rows smp stk pb pt wts row)

variable (m : (ℓ : Loc nD τ sig) → Buf (Elt Ideal) ℓ)

set_option maxHeartbeats 1600000 in
/-- The window positions at every grid point: the row blocks, the node numbers and the results move with the point, the weights stay. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0]
    ∧ win0_16.index t = ![t.val, 0, 0] ∧ win0_17.index t = ![t.val, 0, 0] ∧ win0_18.index t = ![t.val, 0, 0] :=
  (by decide +kernel : ∀ t : Fin grid0.N, _)

/-- The host's unfolding of the rows, at an index. -/
theorem unfold_at (X : FVec Ideal S31200x128 .f32) (h) (p : Fin 96) (n : Fin 325) (c : Fin 128) :
    shapeCast S96x325x128 X h (ix3 p n c) = rows X (pb p) (pt p) n c := by
  pointwise
  exact congrArg (fun r => X (ix2 r c)) (Fin.ext (by simp only [row, pb, pt]; omega))

/-- The host's regrouping of the sampled nodes, at an index. -/
theorem nodes_at (X : FVec Ideal S64x12x32 .f32) (h h' h'') (p : Fin 96) (s : Fin 32) (e : Fin 8) :
    shapeCast S96x32x8 (transpose S8x12x32x8 [1, 2, 3, 0] (shapeCast S8x8x12x32 X h) h') h'' (ix3 p s e) = X (ix3 (stk e (pb p)) (pt p) s) := by
  pointwise [pb, pt]
  exact congrArg (fun r => X (ix3 r _ s)) (Fin.ext (by simp only [stk]; omega))

/-- The block of queries at a grid point. -/
theorem blk0 (c : Dev nD) (t : Fin cfg0.N) (ht : t.val < 96) (n : Fin 325) (k : Fin 128) :
    (iblk m c 0 t : Vec Ideal S1x325x128 .f32) (ix3 0 n k) = rows (m ((c : Thread nD τ).loc main_arg0)) (pb ⟨t.val, ht⟩) (pt ⟨t.val, ht⟩) n k := by
  refine Eq.trans ?_ (unfold_at _ shapeCasts_S31200x128_S96x325x128 _ _ _)
  blk_simp [iblk]
  entry_read
  blk_ext [idx t]

/-- The block of keys at a grid point. -/
theorem blk1 (c : Dev nD) (t : Fin cfg0.N) (ht : t.val < 96) (n : Fin 325) (k : Fin 128) :
    (iblk m c 1 t : Vec Ideal S1x325x128 .f32) (ix3 0 n k) = rows (m ((c : Thread nD τ).loc main_arg1)) (pb ⟨t.val, ht⟩) (pt ⟨t.val, ht⟩) n k := by
  refine Eq.trans ?_ (unfold_at _ shapeCasts_S31200x128_S96x325x128 _ _ _)
  blk_simp [iblk]
  entry_read
  blk_ext [idx t]

/-- The block of values at a grid point. -/
theorem blk2 (c : Dev nD) (t : Fin cfg0.N) (ht : t.val < 96) (n : Fin 325) (k : Fin 128) :
    (iblk m c 2 t : Vec Ideal S1x325x128 .f32) (ix3 0 n k) = rows (m ((c : Thread nD τ).loc main_arg2)) (pb ⟨t.val, ht⟩) (pt ⟨t.val, ht⟩) n k := by
  refine Eq.trans ?_ (unfold_at _ shapeCasts_S31200x128_S96x325x128 _ _ _)
  blk_simp [iblk]
  entry_read
  blk_ext [idx t]

set_option maxHeartbeats 1600000 in
/-- The block of node numbers at a grid point. -/
theorem blk3 (c : Dev nD) (t : Fin cfg0.N) (ht : t.val < 96) (s : Fin 32) (h : Fin 8) :
    (iblk m c 3 t : Vec Ideal S1x32x8 .f32) (ix3 0 s h) = m ((c : Thread nD τ).loc main_arg3) (ix3 (stk h (pb ⟨t.val, ht⟩)) (pt ⟨t.val, ht⟩) s) := by
  refine Eq.trans ?_ (nodes_at _ shapeCasts_S64x12x32_S8x8x12x32 transposes_S8x8x12x32_S8x12x32x8_1_2_3_0 shapeCasts_S8x12x32x8_S96x32x8 _ _ _)
  blk_simp [iblk]
  entry_read
  blk_ext [idx t]

/-- The host's row of one vector, at an index. -/
theorem rowOf_at (x : FVec Ideal S128 .f32) (h) (j : Fin 128) : shapeCast S1x128 x h (ix2 0 j) = x (ix1 j) := by
  pointwise

/-- Window 4 holds the whole matrix of argument 4. -/
theorem whole4 (c : Dev nD) (t : Fin cfg0.N) (i j : Fin 128) :
    (iblk m c 4 t : Vec Ideal S128x128 .f32) (ix2 i j) = m ((c : Thread nD τ).loc main_arg4) (ix2 i j) := by
  blk_ext [iblk, V, idx t]

/-- Window 6 holds the whole matrix of argument 6. -/
theorem whole6 (c : Dev nD) (t : Fin cfg0.N) (i j : Fin 128) :
    (iblk m c 6 t : Vec Ideal S128x128 .f32) (ix2 i j) = m ((c : Thread nD τ).loc main_arg6) (ix2 i j) := by
  blk_ext [iblk, V, idx t]

/-- Window 8 holds the whole matrix of argument 8. -/
theorem whole8 (c : Dev nD) (t : Fin cfg0.N) (i j : Fin 128) :
    (iblk m c 8 t : Vec Ideal S128x128 .f32) (ix2 i j) = m ((c : Thread nD τ).loc main_arg8) (ix2 i j) := by
  blk_ext [iblk, V, idx t]

/-- Window 12 holds the whole matrix of argument 12. -/
theorem whole12 (c : Dev nD) (t : Fin cfg0.N) (i j : Fin 128) :
    (iblk m c 12 t : Vec Ideal S128x128 .f32) (ix2 i j) = m ((c : Thread nD τ).loc main_arg12) (ix2 i j) := by
  blk_ext [iblk, V, idx t]

/-- Window 14 holds the whole matrix of argument 14. -/
theorem whole14 (c : Dev nD) (t : Fin cfg0.N) (i j : Fin 128) :
    (iblk m c 14 t : Vec Ideal S128x128 .f32) (ix2 i j) = m ((c : Thread nD τ).loc main_arg14) (ix2 i j) := by
  blk_ext [iblk, V, idx t]

/-- Window 5 holds the whole row of argument 5. -/
theorem whole5 (c : Dev nD) (t : Fin cfg0.N) (j : Fin 128) :
    (iblk m c 5 t : Vec Ideal S1x128 .f32) (ix2 0 j) = m ((c : Thread nD τ).loc main_arg5) (ix1 j) := by
  refine Eq.trans ?_ (rowOf_at _ shapeCasts_S128_S1x128 j)
  blk_simp [iblk]
  entry_read
  blk_ext [idx t]

/-- Window 7 holds the whole row of argument 7. -/
theorem whole7 (c : Dev nD) (t : Fin cfg0.N) (j : Fin 128) :
    (iblk m c 7 t : Vec Ideal S1x128 .f32) (ix2 0 j) = m ((c : Thread nD τ).loc main_arg7) (ix1 j) := by
  refine Eq.trans ?_ (rowOf_at _ shapeCasts_S128_S1x128 j)
  blk_simp [iblk]
  entry_read
  blk_ext [idx t]

/-- Window 9 holds the whole row of argument 9. -/
theorem whole9 (c : Dev nD) (t : Fin cfg0.N) (j : Fin 128) :
    (iblk m c 9 t : Vec Ideal S1x128 .f32) (ix2 0 j) = m ((c : Thread nD τ).loc main_arg9) (ix1 j) := by
  refine Eq.trans ?_ (rowOf_at _ shapeCasts_S128_S1x128 j)
  blk_simp [iblk]
  entry_read
  blk_ext [idx t]

/-- Window 10 holds the whole row of argument 10. -/
theorem whole10 (c : Dev nD) (t : Fin cfg0.N) (j : Fin 128) :
    (iblk m c 10 t : Vec Ideal S1x128 .f32) (ix2 0 j) = m ((c : Thread nD τ).loc main_arg10) (ix1 j) := by
  refine Eq.trans ?_ (rowOf_at _ shapeCasts_S128_S1x128 j)
  blk_simp [iblk]
  entry_read
  blk_ext [idx t]

/-- Window 11 holds the whole row of argument 11. -/
theorem whole11 (c : Dev nD) (t : Fin cfg0.N) (j : Fin 128) :
    (iblk m c 11 t : Vec Ideal S1x128 .f32) (ix2 0 j) = m ((c : Thread nD τ).loc main_arg11) (ix1 j) := by
  refine Eq.trans ?_ (rowOf_at _ shapeCasts_S128_S1x128 j)
  blk_simp [iblk]
  entry_read
  blk_ext [idx t]

/-- Window 13 holds the whole row of argument 13. -/
theorem whole13 (c : Dev nD) (t : Fin cfg0.N) (j : Fin 128) :
    (iblk m c 13 t : Vec Ideal S1x128 .f32) (ix2 0 j) = m ((c : Thread nD τ).loc main_arg13) (ix1 j) := by
  refine Eq.trans ?_ (rowOf_at _ shapeCasts_S128_S1x128 j)
  blk_simp [iblk]
  entry_read
  blk_ext [idx t]

/-- Window 15 holds the whole row of argument 15. -/
theorem whole15 (c : Dev nD) (t : Fin cfg0.N) (j : Fin 128) :
    (iblk m c 15 t : Vec Ideal S1x128 .f32) (ix2 0 j) = m ((c : Thread nD τ).loc main_arg15) (ix1 j) := by
  refine Eq.trans ?_ (rowOf_at _ shapeCasts_S128_S1x128 j)
  blk_simp [iblk]
  entry_read
  blk_ext [idx t]

/-- The weights the blocks hold at any grid point are the arguments. -/
theorem weights (c : Dev nD) (t : Fin cfg0.N) :
    bw (iblk m c 4 t) (iblk m c 5 t) (iblk m c 6 t) (iblk m c 7 t) (iblk m c 8 t) (iblk m c 9 t) (iblk m c 10 t) (iblk m c 11 t)
        (iblk m c 12 t) (iblk m c 13 t) (iblk m c 14 t) (iblk m c 15 t)
      = wts (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14)) (m ((c : Thread nD τ).loc main_arg15)) := by
  simp only [bw, wts, whole4 m c t, whole6 m c t, whole8 m c t, whole12 m c t, whole14 m c t, whole5 m c t, whole7 m c t, whole9 m c t, whole10 m c t, whole11 m c t, whole13 m c t, whole15 m c t]

end Cert.KernelIdeal.Value

end
-- ==== Proof.AttnValue.lean ====
/- The attention call: what each of its three results holds after the run is what the reference computes. -/
module

public import proofs.«01_k».proof.Proof.AttnEntry
public import proofs.«01_k».proof.Proof.KernelStores
public import Idealize.ShloMosaic.Lib.Claim
public import Idealize.ShloMosaic.Lib.Affine

@[expose] public section

set_option maxRecDepth 16384

noncomputable section

namespace Cert.KernelIdeal.Value

open Cert.KernelIdeal Cert.KernelIdeal.Gen Cert.KernelIdeal.Block Idealize.ShloMosaic Idealize.ShloMosaic.TcCoe Idealize.SL.Sem
open Idealize.ShloMosaic.Pipeline (Dat)
open Cert.Attn (pick vals proj back Weights mid ffn out)
open Cert.ReferenceIdeal.Stage (num Nodes rows smp stk pb pt wts row v229_at v230_at v231_at hed bat stk_self)
open Cert.ReferenceIdeal.Read (val_main_v229 val_main_v230 val_main_v231)

/-- A word between 0 and 324 as a signed number is that number's word. -/
theorem word_node (i : BitVec 32) (h0 : (0#32 : BitVec 32).toInt ≤ i.toInt) (h1 : i.toInt < (325#32 : BitVec 32).toInt) :
    i = BitVec.ofNat 32 (i.toNat % 325) ∧ i.toInt = ((i.toNat % 325 : ℕ) : ℤ) := by
  have a0 : (0#32 : BitVec 32).toInt = 0 := by decide
  have a1 : (325#32 : BitVec 32).toInt = 325 := by decide
  rw [a0] at h0
  rw [a1] at h1
  have h := BitVec.toInt_eq_toNat_cond i
  have hl := i.isLt
  have hn : i.toInt = (i.toNat : ℤ) := by split_ifs at h <;> omega
  have hm : i.toNat % 325 = i.toNat := Nat.mod_eq_of_lt (by omega)
  rw [hm]
  exact ⟨BitVec.eq_of_toNat_eq (by rw [BitVec.toNat_ofNat]; omega), hn⟩

/-- The precondition read at an entry: its integer is a node number, and the entry is that number. -/
theorem entry_node (x : EReal)
    (h : IntOp.andi (Ideal.cmp .oeq (((Ideal.fptosi 32 x).toInt : ℝ) : EReal) x)
      (IntOp.andi (IntOp.cmpi .sge (Ideal.fptosi 32 x) 0#32) (IntOp.cmpi .slt (Ideal.fptosi 32 x) 325#32)) = 1#1) :
    Ideal.fptosi 32 x = BitVec.ofNat 32 ((Ideal.fptosi 32 x).toNat % 325)
      ∧ x = ((((Ideal.fptosi 32 x).toNat % 325 : ℕ) : ℝ) : EReal) := by
  rw [IntOp.andi_eq_one, IntOp.andi_eq_one, IntOp.cmpi_sge, IntOp.cmpi_slt] at h
  obtain ⟨he, h0, h1⟩ := h
  obtain ⟨hw, hi⟩ := word_node _ h0 h1
  refine ⟨hw, ?_⟩
  have hx : (((Ideal.fptosi 32 x).toInt : ℝ) : EReal) = x := by
    by_contra hne
    simp [Ideal.cmp, hne] at he
  rw [hi] at hx
  exact_mod_cast hx.symm

variable (m : (ℓ : Loc nD τ sig) → Buf (Elt Ideal) ℓ)

/-- Under the precondition every sample entry is the node number it names. -/
theorem nodes [Cert.Pre_node_numbers.Facts] (hpre : Cert.Pre_KernelIdeal_node_numbers m) (c : Dev nD) :
    Nodes (m ((c : Thread nD τ).loc main_arg3)) ∧ ∀ e t s, m ((c : Thread nD τ).loc main_arg3) (ix3 e t s)
      = (((num (m ((c : Thread nD τ).loc main_arg3)) e t s).val : ℝ) : EReal) := by
  have h : ∀ e t s, _ := fun e t s => entry_node (m ((c : Thread nD τ).loc main_arg3) (ix3 e t s)) (congrFun (hpre c) (ix3 e t s))
  exact ⟨fun e t s => (h e t s).1, fun e t s => (h e t s).2⟩

section
variable (c : Dev nD) (hx : Nodes (m ((c : Thread nD τ).loc main_arg3)))
  (hv : ∀ e t s, m ((c : Thread nD τ).loc main_arg3) (ix3 e t s) = (((num (m ((c : Thread nD τ).loc main_arg3)) e t s).val : ℝ) : EReal))

include hv in
/-- The block of node numbers at a grid point names the batch's sampled nodes. -/
theorem blk3_val (t : Fin cfg0.N) (ht : t.val < 96) (s : Fin 32) (h : Fin 8) :
    (iblk m c 3 t : Vec Ideal S1x32x8 .f32) (ix3 0 s h)
      = (((smp (m ((c : Thread nD τ).loc main_arg3)) (pb ⟨t.val, ht⟩) (pt ⟨t.val, ht⟩) s h).val : ℝ) : EReal) :=
  (blk3 m c t ht s h).trans (hv _ _ _)

/-- The rows of queries at a grid point, as a matrix. -/
theorem rows0 (t : Fin cfg0.N) (ht : t.val < 96) : blk (iblk m c 0 t) = rows (m ((c : Thread nD τ).loc main_arg0)) (pb ⟨t.val, ht⟩) (pt ⟨t.val, ht⟩) :=
  funext fun n => funext fun k => blk0 m c t ht n k

/-- The rows of keys at a grid point, as a matrix. -/
theorem rows1 (t : Fin cfg0.N) (ht : t.val < 96) : blk (iblk m c 1 t) = rows (m ((c : Thread nD τ).loc main_arg1)) (pb ⟨t.val, ht⟩) (pt ⟨t.val, ht⟩) :=
  funext fun n => funext fun k => blk1 m c t ht n k

/-- The rows of values at a grid point, as a matrix. -/
theorem rows2 (t : Fin cfg0.N) (ht : t.val < 96) : blk (iblk m c 2 t) = rows (m ((c : Thread nD τ).loc main_arg2)) (pb ⟨t.val, ht⟩) (pt ⟨t.val, ht⟩) :=
  funext fun n => funext fun k => blk2 m c t ht n k

include hx hv in
/-- After the run the third result is the reference's. -/
theorem final18 : (dats m 0 c).arrAt 18 (cfgs 0).N = val_main_v231 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 18 _ (by decide +kernel) fun t _ y => ?_
  have ht : t.val < 96 := t.isLt
  blk_simp
  rw [after0_18, store18]
  frame_out
  idx_vars y
  have he : (((cfg0.win 18).blk t).view.emb (ix3 y0 y1 y2) : S96x32x128.Idx) = ix3 ⟨t.val, ht⟩ y1 y2 := by blk_ext [idx t]
  refine Eq.trans ?_ (congrArg (val_main_v231 (F := Ideal) _ _ _ _) he).symm
  rw [v231_at _ _ _ _ hx]
  rw [Subsingleton.elim y0 0]
  rw [block18 _ _ _ _ _ (blk3_val m c hv t ht), rows0 m c t ht, rows1 m c t ht, rows2 m c t ht]

include hx hv in
/-- After the run the second result is the reference's. -/
theorem final17 : (dats m 0 c).arrAt 17 (cfgs 0).N = val_main_v230 (F := Ideal) (m ((c : Thread nD τ).loc main_arg0)) (m ((c : Thread nD τ).loc main_arg1)) (m ((c : Thread nD τ).loc main_arg3)) := by
  refine (dats m 0 c).arrAt_eq_of_covers 17 _ (by decide +kernel) fun t _ y => ?_
  have ht : t.val < 96 := t.isLt
  blk_simp
  rw [after0_17, store17]
  frame_out
  idx_vars y
  have he : (((cfg0.win 17).blk t).view.emb (ix3 y0 y1 y2) : S96x325x32.Idx) = ix3 ⟨t.val, ht⟩ y1 y2 := by blk_ext [idx t]
  refine Eq.trans ?_ (congrArg (val_main_v230 (F := Ideal) _ _ _) he).symm
  rw [v230_at _ _ _ hx]
  rw [Subsingleton.elim y0 0]
  rw [block17 _ _ _ _ (blk3_val m c hv t ht), rows0 m c t ht, rows1 m c t ht]

include hx hv in
/-- After the run the first result is the reference's. -/
theorem final16 : (dats m 0 c).arrAt 16 (cfgs 0).N = val_main_v229 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 16 _ (by decide +kernel) fun t _ y => ?_
  have ht : t.val < 96 := t.isLt
  blk_simp
  rw [after0_16, store16]
  frame_out
  idx_vars y
  have he : (((cfg0.win 16).blk t).view.emb (ix3 y0 y1 y2) : S96x325x128.Idx) = ix3 ⟨t.val, ht⟩ y1 y2 := by blk_ext [idx t]
  refine Eq.trans ?_ (congrArg (val_main_v229 (F := Ideal) _ _ _ _ _ _ _ _ _ _ _ _ _ _ _ _) he).symm
  rw [v229_at _ _ _ _ _ _ _ _ _ _ _ _ _ _ _ _ hx]
  rw [Subsingleton.elim y0 0]
  rw [block16 _ _ _ _ _ _ _ _ _ _ _ _ _ _ _ _ _ (blk3_val m c hv t ht), rows0 m c t ht, rows1 m c t ht, rows2 m c t ht, weights]

end

end Cert.KernelIdeal.Value

end
-- ==== Proof.RefRun.lean ====
/- The run of the attention reference, its three results named by their last stages. -/
module

public import proofs.«01_k».proof.Proof.Gen.ReferenceIdeal.Run
public import proofs.«01_k».proof.Proof.Gen.ReferenceIdeal.Read
public import Idealize.ShloMosaic.Lib.Claim

@[expose] public section

set_option maxRecDepth 16384

noncomputable section

namespace Cert.ReferenceIdeal.Ran

open Cert.ReferenceIdeal Idealize.ShloMosaic Idealize.ShloMosaic.TcCoe Idealize.SL.Sem Idealize.ShloMosaic.StableHlo
open Cert.ReferenceIdeal.Read (val_main_v229 val_main_v230 val_main_v231 val_main_v229_eq val_main_v230_eq val_main_v231_eq)
/-- Every run of the reference ends with its three results holding the last stages over the arguments, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v229) = val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v230) = val_main_v230 (F := Ideal) (m ((c.tc : Thread nD τ).loc main_arg0)) (m ((c.tc : Thread nD τ).loc main_arg1)) (m ((c.tc : Thread nD τ).loc main_arg3))
      ∧ r.2.mem ((c.tc : Thread nD τ).loc main_v231) = val_main_v231 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  θ_run_mono (Cert.ReferenceIdeal.Value.run m ρ) fun _ h c =>
    ⟨(h c).1.trans (val_main_v229_eq (launchContents m c)), (h c).2.1.trans (val_main_v230_eq (launchContents m c)),
      (h c).2.2.1.trans (val_main_v231_eq (launchContents m c)), (h c).2.2.2⟩

end Cert.ReferenceIdeal.Ran

end
-- ==== Proof.AttnClaim.lean ====
/- The attention call is its reference: every result, where the samples are node numbers. -/
module

public import proofs.«01_k».proof.Proof.AttnValue
public import proofs.«01_k».proof.Proof.RefRun
public import Idealize.ShloMosaic.Lib.Claim

@[expose] public section

set_option maxRecDepth 16384

noncomputable section

namespace Cert.KernelIdeal.Value

open Cert.KernelIdeal Cert.KernelIdeal.Gen Cert.KernelIdeal.Block Idealize.ShloMosaic Idealize.ShloMosaic.TcCoe Idealize.SL.Sem
open Idealize.ShloMosaic.Pipeline (Dat)

set_option maxHeartbeats 4000000 in
/-- The three results of the attention call are the reference's, where the samples are node numbers. -/
theorem algebraic [Cert.Pre_node_numbers.Facts] : Cert.algebraic_KernelIdeal_ReferenceIdeal_pre_node_numbers := by
  intro m g m' g' hpre hagree
  refine ⟨fun c => (dats m 0 c).arrAt 16 (cfgs 0).N, fun c => (dats m 0 c).arrAt 17 (cfgs 0).N,
    fun c => (dats m 0 c).arrAt 18 (cfgs 0).N, ?_, ?_⟩
  · run_from Cert.KernelIdeal.Gen.run_main m g
    · exact hc.1 16
    · exact hc.1 17
    · exact hc.1 18
  · refine θ_run_mono (Cert.ReferenceIdeal.Ran.run m' g') fun r h c => ?_
    obtain ⟨h0, h1, h2, hr⟩ := h c
    obtain ⟨a0, a1, a2, a3, a4, a5, a6, a7, a8, a9, a10, a11, a12, a13, a14, a15⟩ := hagree c
    have hn := nodes m hpre c
    rw [a0, a1, a2, a3, a4, a5, a6, a7, a8, a9, a10, a11, a12, a13, a14, a15] at h0
    rw [a0, a1, a3] at h1
    rw [a0, a1, a2, a3] at h2
    exact ⟨h0.trans (final16 m c hn.1 hn.2).symm, h1.trans (final17 m c hn.1 hn.2).symm,
      h2.trans (final18 m c hn.1 hn.2).symm, hr⟩

end Cert.KernelIdeal.Value

end
-- ==== Proof.QkvValue.lean ====
/- The projection call: the three arrays it leaves are the three linear maps of the reference. -/
module

public import proofs.«01_k».proof.Defs
public import proofs.«01_k».proof.Proof.Gen.QkvIdeal.Frame
public import proofs.«01_k».proof.Proof.Gen.QkvReferenceIdeal.Read
public import Idealize.ShloMosaic.Lib.Claim
public import Idealize.ShloMosaic.Lib.Pointwise
public import Idealize.ShloMosaic.Lib.Pipeline.ValueKit

@[expose] public section

set_option maxRecDepth 16384

noncomputable section

namespace Cert.QkvIdeal.Proj

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- The reference's linear map `x @ W + b`, its leading axes folded into one. -/
def REF (X : FVec Ideal Cert.QkvReferenceIdeal.S8x12x325x128 .f32) (W : FVec Ideal Cert.QkvReferenceIdeal.S128x128 .f32)
    (b : FVec Ideal Cert.QkvReferenceIdeal.S128 .f32) : FVec Ideal Cert.QkvReferenceIdeal.S31200x128 .f32 :=
  Cert.QkvReferenceIdeal.Read.val_main_v12 (F := Ideal) X W b

/-- The window positions at every grid point: the rows' block moves with the point, weights and biases stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- The row `r` of the folded array is node `r % 325` of time step `r / 325 % 12` of batch `r / 3900`. -/
def row (X : FVec Ideal S8x12x325x128 .f32) (r : Fin 31200) (k : Fin 128) : EReal :=
  X (ix4 ⟨r.val / 3900, by omega⟩ ⟨r.val / 325 % 12, by omega⟩ ⟨r.val % 325, by omega⟩ k)

/-- The reference's linear map at row `r`, column `l`. -/
theorem ref_at (X : FVec Ideal S8x12x325x128 .f32) (W : FVec Ideal S128x128 .f32) (b : FVec Ideal S128 .f32)
    (r : Fin 31200) (l : Fin 128) :
    REF X W b (ix2 r l) = (∑ k : Fin 128, row X r k * W (ix2 k l)) + b (ix1 l) := by
  pointwise [REF, row, Cert.QkvReferenceIdeal.Read.val_main_v12, Cert.QkvReferenceIdeal.Read.val_main_v3,
    Cert.QkvReferenceIdeal.Read.val_main_v0, Cert.QkvReferenceIdeal.Read.val_main_v1, Cert.QkvReferenceIdeal.Read.val_main_v2]

/-- The host's fold of the input's leading axes, read at a row. -/
theorem fold_at (X : FVec Ideal S8x12x325x128 .f32) (h) (r : Fin 31200) (k : Fin 128) :
    shapeCast S31200x128 X h (ix2 r k) = row X r k := by
  pointwise [row]

/-- A stored block at row `p`, column `l`, over any blocks. -/
theorem block_at (x : Vec Ideal S800x128 .f32) (W : Vec Ideal S128x128 .f32) (b : Vec Ideal S1x128 .f32)
    (p : Fin 800) (l : Fin 128) :
    k0_pay2 (F := Ideal) x W b (ix2 p l) = (∑ k : Fin 128, x (ix2 p k) * W (ix2 k l)) + b (ix2 0 l) := by
  pointwise! [k0_pay2, k0_pay1]

/-- Every stored block, over a block of rows and whole weights, is the linear map at the rows' places. -/
theorem block_ref (X : FVec Ideal S8x12x325x128 .f32) (W : FVec Ideal S128x128 .f32) (b : FVec Ideal S128 .f32)
    (x : Vec Ideal S800x128 .f32) (w : Vec Ideal S128x128 .f32) (v : Vec Ideal S1x128 .f32) (s : ℕ) (hs : s < 39)
    (hx : ∀ (p : Fin 800) (k : Fin 128), x (ix2 p k) = row X ⟨s * 800 + p.val, by omega⟩ k)
    (hw : ∀ k l : Fin 128, w (ix2 k l) = W (ix2 k l)) (hv : ∀ l : Fin 128, v (ix2 0 l) = b (ix1 l))
    (p : Fin 800) (l : Fin 128) :
    k0_pay2 (F := Ideal) x w v (ix2 p l) = REF X W b (ix2 ⟨s * 800 + p.val, by omega⟩ l) := by
  rw [block_at, ref_at, hv l]
  exact congrArg (· + b (ix1 l)) (Finset.sum_congr rfl fun k _ => by rw [hx, hw])

/-- The block of rows staged at grid point `t` holds rows `800 t` to `800 t + 799`. -/
theorem rows (c : Dev nD) (t : Fin cfg0.N) (ht : t.val < 39) (p : Fin 800) (k : Fin 128) :
    (iblk m c 0 t : Vec Ideal S800x128 .f32) (ix2 p k)
      = row (m ((c : Thread nD τ).loc main_arg0)) ⟨t.val * 800 + p.val, by omega⟩ k := by
  refine Eq.trans ?_ (fold_at _ shapeCasts_S8x12x325x128_S31200x128 _ _)
  blk_simp [iblk]
  entry_read
  blk_ext [idx t]

/-- What grid point `t` stores of the queries, read at a block index, is the linear map at that index's place. -/
theorem point7 (c : Dev nD) (t : Fin cfg0.N) (y : S800x128.Idx) :
    k0_pay2 (F := Ideal) (iblk m c 0 t) (iblk m c 1 t) (iblk m c 2 t) y
    = REF (m ((c : Thread nD τ).loc main_arg0)) (m ((c : Thread nD τ).loc main_arg1)) (m ((c : Thread nD τ).loc main_arg2))
        (((cfg0.win 7).blk t).view.emb y) := by
  idx_vars y
  have ht : t.val < 39 := t.isLt
  have he : (((cfg0.win 7).blk t).view.emb (ix2 y0 y1) : S31200x128.Idx)
      = ix2 ⟨t.val * 800 + y0.val, by omega⟩ y1 := by blk_ext [idx t]
  refine Eq.trans ?_ (congrArg (REF _ _ _) he).symm
  refine block_ref _ _ _ _ _ _ t.val ht (rows m c t ht) (fun k l => ?_) (fun l => ?_) y0 y1
  · blk_ext [iblk, V, idx t]
  · blk_simp [iblk]
    entry_read
    pointwise
    blk_ext [idx t]

/-- After the run the queries are the linear map with their own weights. -/
theorem final7 (c : Dev nD) : (dats m 0 c).arrAt 7 (cfgs 0).N
    = REF (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  exact point7 m c t y

/-- What grid point `t` stores of the keys, read at a block index, is the linear map at that index's place. -/
theorem point8 (c : Dev nD) (t : Fin cfg0.N) (y : S800x128.Idx) :
    k0_pay3 (F := Ideal) (iblk m c 0 t) (iblk m c 3 t) (iblk m c 4 t) y
    = REF (m ((c : Thread nD τ).loc main_arg0)) (m ((c : Thread nD τ).loc main_arg3)) (m ((c : Thread nD τ).loc main_arg4))
        (((cfg0.win 8).blk t).view.emb y) := by
  idx_vars y
  have ht : t.val < 39 := t.isLt
  have he : (((cfg0.win 8).blk t).view.emb (ix2 y0 y1) : S31200x128.Idx)
      = ix2 ⟨t.val * 800 + y0.val, by omega⟩ y1 := by blk_ext [idx t]
  refine Eq.trans ?_ (congrArg (REF _ _ _) he).symm
  refine block_ref _ _ _ _ _ _ t.val ht (rows m c t ht) (fun k l => ?_) (fun l => ?_) y0 y1
  · blk_ext [iblk, V, idx t]
  · blk_simp [iblk]
    entry_read
    pointwise
    blk_ext [idx t]

/-- After the run the keys are the linear map with their own weights. -/
theorem final8 (c : Dev nD) : (dats m 0 c).arrAt 8 (cfgs 0).N
    = REF (m ((c : Thread nD τ).loc main_arg0)) (m ((c : Thread nD τ).loc main_arg3)) (m ((c : Thread nD τ).loc main_arg4)) := by
  refine (dats m 0 c).arrAt_eq_of_covers 8 _ (by decide +kernel) fun t _ y => ?_
  blk_simp
  rw [after0_8]; frame_out
  exact point8 m c t y

/-- What grid point `t` stores of the values, read at a block index, is the linear map at that index's place. -/
theorem point9 (c : Dev nD) (t : Fin cfg0.N) (y : S800x128.Idx) :
    k0_pay4 (F := Ideal) (iblk m c 0 t) (iblk m c 5 t) (iblk m c 6 t) y
    = REF (m ((c : Thread nD τ).loc main_arg0)) (m ((c : Thread nD τ).loc main_arg5)) (m ((c : Thread nD τ).loc main_arg6))
        (((cfg0.win 9).blk t).view.emb y) := by
  idx_vars y
  have ht : t.val < 39 := t.isLt
  have he : (((cfg0.win 9).blk t).view.emb (ix2 y0 y1) : S31200x128.Idx)
      = ix2 ⟨t.val * 800 + y0.val, by omega⟩ y1 := by blk_ext [idx t]
  refine Eq.trans ?_ (congrArg (REF _ _ _) he).symm
  refine block_ref _ _ _ _ _ _ t.val ht (rows m c t ht) (fun k l => ?_) (fun l => ?_) y0 y1
  · blk_ext [iblk, V, idx t]
  · blk_simp [iblk]
    entry_read
    pointwise
    blk_ext [idx t]

/-- After the run the values are the linear map with their own weights. -/
theorem final9 (c : Dev nD) : (dats m 0 c).arrAt 9 (cfgs 0).N
    = REF (m ((c : Thread nD τ).loc main_arg0)) (m ((c : Thread nD τ).loc main_arg5)) (m ((c : Thread nD τ).loc main_arg6)) := by
  refine (dats m 0 c).arrAt_eq_of_covers 9 _ (by decide +kernel) fun t _ y => ?_
  blk_simp
  rw [after0_9]; frame_out
  exact point9 m c t y

/-- The three arrays of queries, keys and values the call leaves are the reference's. -/
theorem algebraic : Cert.algebraic_QkvIdeal_QkvReferenceIdeal := by
  pair_intro
  · run_from Cert.QkvIdeal.Gen.run_main m g
  · run_from Cert.QkvReferenceIdeal.Value.run m' g'
    · exact (final7 m c).symm
    · exact (final8 m c).symm
    · exact (final9 m c).symm

end Cert.QkvIdeal.Proj

end
-- ==== Proof.ScoreRef.lean ====
/- The reference's score of a node: the products of its query with the keys of eight nodes, weighted and shifted. -/
module

public import proofs.«01_k».proof.Proof.Spec
public import proofs.«01_k».proof.Proof.Gen.ScoresReferenceIdeal.Read
public import Idealize.ShloMosaic.Lib.Pointwise

@[expose] public section

set_option maxRecDepth 16384

noncomputable section

namespace Cert.ScoresReferenceIdeal.Stage

open Cert.ScoresReferenceIdeal Cert.ScoresReferenceIdeal.Gen Cert.ScoresReferenceIdeal.Read Idealize.ShloMosaic Idealize.ShloMosaic.TcCoe Idealize.SL.Sem
open Cert.Attn (hd col)

/-- The row of the flat array that node `n` of slab `g` has; a slab is one time step of one batch entry. -/
def node (g : Fin 96) (n : Fin 325) : Fin 31200 := ⟨g.val * 325 + n.val, by omega⟩

/-- One of the first eight nodes. -/
def first (s : Fin 8) : Fin 325 := ⟨s.val, by omega⟩

/-- Head `h`'s product of the query of node `n` with the key of node `s`, in slab `g`. -/
def prod (Q K : FVec Ideal S31200x128 .f32) (g : Fin 96) (n : Fin 325) (s h : Fin 8) : EReal :=
  ∑ d : Fin 16, Q (ix2 (node g n) (col h d)) * K (ix2 (node g (first s)) (col h d))

/-- Head `h`'s score of node `n` in slab `g`. -/
def meas (Q K : FVec Ideal S31200x128 .f32) (w : FVec Ideal S8x1 .f32) (b : FVec Ideal S1 .f32)
    (g : Fin 96) (n : Fin 325) (h : Fin 8) : EReal :=
  (∑ s : Fin 8, prod Q K g n s h * w (ix2 s 0)) + b (ix1 0)

/-- The slab of a batch entry and a time step. -/
def slab (b : Fin 8) (t : Fin 12) : Fin 96 := ⟨b.val * 12 + t.val, by omega⟩

/-- The batch entry of a stacked index: heads are stacked over whole batches. -/
def bat (e : Fin 64) : Fin 8 := ⟨e.val % 8, by omega⟩

/-- The head of a stacked index. -/
def hed (e : Fin 64) : Fin 8 := ⟨e.val / 8, by omega⟩

/-- The unfolded queries at their four coordinates. -/
theorem v0_at (x : FVec Ideal S31200x128 .f32) (b : Fin 8) (t : Fin 12) (n : Fin 325) (c : Fin 128) :
    val_main_v0 (F := Ideal) x (ix4 b t n c) = x (ix2 (node (slab b t) n) c) := by
  pointwise [val_main_v0, node, slab]
  exact congrArg (fun r => x (ix2 r c)) (Fin.ext (by show b.val * 3900 + t.val * 325 + n.val = (b.val * 12 + t.val) * 325 + n.val; omega))

/-- Choosing a slab of columns by the stacked index is choosing by its head and batch entry. -/
theorem ladderE {α : Type} (g : Fin 8 → Fin 128 → α) (e : Fin 64) (d : Fin 16) (b c : ℕ) (hb : b < 8) (hc : c < 128)
    (h : e.val % 8 = b) (h' : 16 * (e.val / 8) + d.val = c) : g ⟨b, hb⟩ ⟨c, hc⟩ = g (bat e) (col (hed e) d) :=
  congrArg₂ g (Fin.ext h.symm) (Fin.ext h'.symm)

/-- The queries' heads stacked over batches. -/
theorem v10_at (x : FVec Ideal S31200x128 .f32) (e : Fin 64) (t : Fin 12) (n : Fin 325) (d : Fin 16) :
    val_main_v10 (F := Ideal) x (ix4 e t n d) = x (ix2 (node (slab (bat e) t) n) (col (hed e) d)) := by
  pointwise [val_main_v10, val_main_v2, val_main_v3, val_main_v4, val_main_v5, val_main_v6, val_main_v7, val_main_v8, val_main_v9, v0_at]
  have he := e.isLt
  split_ifs <;> exact ladderE (fun b c => x (ix2 (node (slab b t) n) c)) e d _ _ _ _ (by omega) (by omega)

/-- The keys are stacked as the queries are. -/
theorem v19_eq (x : FVec Ideal S31200x128 .f32) : val_main_v19 (F := Ideal) x = val_main_v10 (F := Ideal) x := rfl

/-- A small number read back from its word. -/
theorem word_nat (k : Fin 8) : (BitVec.ofNat 32 k.val).toInt.toNat = k.val := by
  revert k; decide

/-- How the eight nodes' rows are addressed: one node number, whole rows along the other axes. -/
abbrev GD : GatherDims S64x12x325x16 S325x8x1 S64x12x325x8x16 := gather_S64x12x325x16_S325x8x1_S64x12x325x8x16_014_2_n_n_2_2_6412116

/-- Rows picked by a node number: where it is one of the first eight, that node's row is read. -/
theorem gather_at (x : FVec Ideal S64x12x325x16 .f32) (I : IVec S325x8x1 32) (e : Fin 64) (t : Fin 12) (n : Fin 325) (s : Fin 8) (d : Fin 16)
    (h0 : I (ix3 n s 0) = BitVec.ofNat 32 s.val) :
    Host.gather GD x I (ix5 e t n s d) = x (ix4 e t (first s) d) := by
  unfold Host.gather
  refine congrArg x (funext fun a => Fin.ext ?_)
  show GD.start (ix5 e t n s d) I a + GD.batchCoord (ix5 e t n s d) a + GD.offCoord (ix5 e t n s d) a = _
  have hb : GD.batchCoord (ix5 e t n s d) a = 0 := GatherDims.batchCoord_eq_zero _ _ _ List.not_mem_nil
  rw [hb]
  match a with
  | ⟨0, _⟩ =>
    have hs : GD.start (ix5 e t n s d) I (0 : Fin 4) = 0 := dif_neg (show ¬ (0 : Fin 4) ∈ GD.startIndexMap by decide)
    have ho : GD.offCoord (ix5 e t n s d) (0 : Fin 4) = e.val := dif_pos (show (0 : Fin 4) ∈ GD.sKept by decide)
    exact (congrArg₂ (· + ·) (congrArg (· + 0) hs) ho).trans (by show 0 + 0 + e.val = e.val; omega)
  | ⟨1, _⟩ =>
    have hs : GD.start (ix5 e t n s d) I (1 : Fin 4) = 0 := dif_neg (show ¬ (1 : Fin 4) ∈ GD.startIndexMap by decide)
    have ho : GD.offCoord (ix5 e t n s d) (1 : Fin 4) = t.val := dif_pos (show (1 : Fin 4) ∈ GD.sKept by decide)
    exact (congrArg₂ (· + ·) (congrArg (· + 0) hs) ho).trans (by show 0 + 0 + t.val = t.val; omega)
  | ⟨2, _⟩ =>
    have hm : (2 : Fin 4) ∈ GD.startIndexMap := by decide
    have ho : GD.offCoord (ix5 e t n s d) (2 : Fin 4) = 0 := GatherDims.offCoord_eq_zero _ _ _ (fun h => ((GatherDims.mem_sKept _ _).mp h).1 hm)
    have hs : GD.start (ix5 e t n s d) I (2 : Fin 4) = s.val := by
      unfold GatherDims.start
      rw [dif_pos hm]
      have hsi : ∀ h, GD.siIdx (ix5 e t n s d) ⟨List.idxOf (2 : Fin 4) GD.startIndexMap, h⟩ = ix3 n s 0 := by
        intro h
        funext b
        refine Fin.ext ?_
        match b with
        | ⟨0, _⟩ => rfl
        | ⟨1, _⟩ => rfl
        | ⟨2, _⟩ => rfl
      rw [hsi, h0, word_nat]
      have := s.isLt
      show min s.val (325 - 1) = s.val
      omega
    exact (congrArg₂ (· + ·) (congrArg (· + 0) hs) ho).trans (by show s.val + 0 + 0 = s.val; omega)
  | ⟨3, _⟩ =>
    have hs : GD.start (ix5 e t n s d) I (3 : Fin 4) = 0 := dif_neg (show ¬ (3 : Fin 4) ∈ GD.startIndexMap by decide)
    have ho : GD.offCoord (ix5 e t n s d) (3 : Fin 4) = d.val := dif_pos (show (3 : Fin 4) ∈ GD.sKept by decide)
    exact (congrArg₂ (· + ·) (congrArg (· + 0) hs) ho).trans (by show 0 + 0 + d.val = d.val; omega)

/-- The node numbers as the picking reads them, where they are the first eight in order. -/
theorem v26_at (st : IVec S1x8 32) (hst : ∀ s : Fin 8, st (ix2 0 s) = BitVec.ofNat 32 s.val) (n : Fin 325) (s : Fin 8) :
    val_main_v26 (F := Ideal) st (ix3 n s 0) = BitVec.ofNat 32 s.val := by
  pointwise [val_main_v26, val_main_v25, val_main_v24, val_main_v23, val_main_v22, val_main_v21, val_main_v20, val_main_c, val_main_c_0, hst]
  revert s; decide

/-- The keys of the eight nodes, at an index. -/
theorem v27_at (K : FVec Ideal S31200x128 .f32) (st : IVec S1x8 32) (hst : ∀ s : Fin 8, st (ix2 0 s) = BitVec.ofNat 32 s.val)
    (e : Fin 64) (t : Fin 12) (n : Fin 325) (s : Fin 8) (d : Fin 16) :
    val_main_v27 (F := Ideal) K st (ix5 e t n s d) = K (ix2 (node (slab (bat e) t) (first s)) (col (hed e) d)) := by
  unfold val_main_v27
  rw [gather_at _ _ e t n s d (v26_at st hst n s), v19_eq, v10_at]

/-- The products of queries and keys, at an index. -/
theorem v28_at (Q K : FVec Ideal S31200x128 .f32) (st : IVec S1x8 32) (hst : ∀ s : Fin 8, st (ix2 0 s) = BitVec.ofNat 32 s.val)
    (e : Fin 64) (t : Fin 12) (n : Fin 325) (s : Fin 8) :
    val_main_v28 (F := Ideal) Q K st (ix4 e t n s) = prod Q K (slab (bat e) t) n s (hed e) := by
  unfold val_main_v28
  pointwise [v10_at, v27_at K st hst, prod]

/-- The stacked scores, at an index. -/
theorem v32_at (Q K : FVec Ideal S31200x128 .f32) (w : FVec Ideal S8x1 .f32) (b : FVec Ideal S1 .f32) (st : IVec S1x8 32)
    (hst : ∀ s : Fin 8, st (ix2 0 s) = BitVec.ofNat 32 s.val) (e : Fin 64) (t : Fin 12) (n : Fin 325) :
    val_main_v32 (F := Ideal) Q K w b st (ix4 e t n 0) = meas Q K w b (slab (bat e) t) n (hed e) := by
  pointwise [val_main_v32, val_main_v29, val_main_v31, val_main_v30, v28_at Q K st hst, meas]

/-- The reference's scores, at an index. -/
theorem v36_at (Q K : FVec Ideal S31200x128 .f32) (w : FVec Ideal S8x1 .f32) (b : FVec Ideal S1 .f32) (st : IVec S1x8 32)
    (hst : ∀ s : Fin 8, st (ix2 0 s) = BitVec.ofNat 32 s.val) (g : Fin 96) (n : Fin 325) (h : Fin 8) :
    val_main_v36 (F := Ideal) Q K w b st (ix3 g n h) = meas Q K w b g n h := by
  have key : val_main_v36 (F := Ideal) Q K w b st (ix3 g n h)
      = val_main_v32 (F := Ideal) Q K w b st (ix4 ⟨h.val * 8 + g.val / 12, by omega⟩ ⟨g.val % 12, by omega⟩ n 0) := by
    pointwise [val_main_v36, val_main_v35, val_main_v34, val_main_v33]
  rw [key, v32_at Q K w b st hst]
  exact congrArg₂ (fun g h => meas Q K w b g n h) (Fin.ext (by simp only [slab, bat]; omega)) (Fin.ext (by simp only [hed]; omega))

end Cert.ScoresReferenceIdeal.Stage

end
-- ==== Proof.ScoreBlock.lean ====
/- The score body: what it stores of a slab, read at an index. -/
module

public import proofs.«01_k».proof.Proof.Spec
public import proofs.«01_k».proof.Proof.Gen.ScoresIdeal.Skeleton
public import Idealize.ShloMosaic.Lib.Pointwise

@[expose] public section

set_option maxRecDepth 16384

noncomputable section

namespace Cert.ScoresIdeal.Block

open Cert.ScoresIdeal Cert.ScoresIdeal.Gen Idealize.ShloMosaic Idealize.ShloMosaic.TcCoe Idealize.SL.Sem
open Cert.Attn (hd col)

/-- The columns turned 8 places to the left. -/
def turn8 (x : FVec Ideal S325x128 .f32) : FVec Ideal S325x128 .f32 :=
  concatenate S325x128 1 [⟨S325x120, extractStridedSlice S325x120 ![0, 8] x slices_S325x128_o0_8_S325x120⟩,
    ⟨S325x8, extractStridedSlice S325x8 ![0, 0] x slices_S325x128_o0_0_S325x8⟩] concatenates_S325x120_S325x8_S325x128_d1

/-- The columns turned 4 places to the left. -/
def turn4 (x : FVec Ideal S325x128 .f32) : FVec Ideal S325x128 .f32 :=
  concatenate S325x128 1 [⟨S325x124, extractStridedSlice S325x124 ![0, 4] x slices_S325x128_o0_4_S325x124⟩,
    ⟨S325x4, extractStridedSlice S325x4 ![0, 0] x slices_S325x128_o0_0_S325x4⟩] concatenates_S325x124_S325x4_S325x128_d1

/-- The columns turned 2 places to the left. -/
def turn2 (x : FVec Ideal S325x128 .f32) : FVec Ideal S325x128 .f32 :=
  concatenate S325x128 1 [⟨S325x126, extractStridedSlice S325x126 ![0, 2] x slices_S325x128_o0_2_S325x126⟩,
    ⟨S325x2, extractStridedSlice S325x2 ![0, 0] x slices_S325x128_o0_0_S325x2⟩] concatenates_S325x126_S325x2_S325x128_d1

/-- The columns turned 1 places to the left. -/
def turn1 (x : FVec Ideal S325x128 .f32) : FVec Ideal S325x128 .f32 :=
  concatenate S325x128 1 [⟨S325x127, extractStridedSlice S325x127 ![0, 1] x slices_S325x128_o0_1_S325x127⟩,
    ⟨S325x1, extractStridedSlice S325x1 ![0, 0] x slices_S325x128_o0_0_S325x1⟩] concatenates_S325x127_S325x1_S325x128_d1

/-- Four halvings: each column is added to the one eight, four, two and one to its right. -/
def fold (x : FVec Ideal S325x128 .f32) : FVec Ideal S325x128 .f32 :=
  have a : FVec Ideal S325x128 .f32 := addf x (turn8 x)
  have b : FVec Ideal S325x128 .f32 := addf a (turn4 a)
  have c : FVec Ideal S325x128 .f32 := addf b (turn2 b)
  addf c (turn1 c)

/-- The queries times one key row, column by column. -/
def keyed (o : ℕ) (h : S8x128.Slices ![o, 0] S1x128) (q : FVec Ideal S325x128 .f32) (k : FVec Ideal S8x128 .f32) : FVec Ideal S325x128 .f32 :=
  mulf q (broadcastTo S325x128 (extractStridedSlice S1x128 ![o, 0] k h) broadcasts_S1x128_S325x128)

/-- The halvings' outcome, through the narrow format and back. -/
def pass (x : FVec Ideal S325x128 .f32) : FVec Ideal S325x128 .f32 :=
  extf .f32 (truncf .bf16 (fold x) bitsLt_bf16_f32) bitsLt_bf16_f32

/-- Eight such arrays side by side. -/
def join (f : Fin 8 → FVec Ideal S325x128 .f32) : FVec Ideal S325x1024 .f32 :=
  concatenate S325x1024 1 [⟨S325x128, f 0⟩, ⟨S325x128, f 1⟩, ⟨S325x128, f 2⟩, ⟨S325x128, f 3⟩, ⟨S325x128, f 4⟩, ⟨S325x128, f 5⟩, ⟨S325x128, f 6⟩, ⟨S325x128, f 7⟩]
    concatenates_S325x128_S325x128_S325x128_S325x128_S325x128_S325x128_S325x128_S325x128_S325x1024_d1

/-- The halvings of the products with the eight key rows. -/
def parts (q : FVec Ideal S325x128 .f32) (k : FVec Ideal S8x128 .f32) (s : Fin 8) : FVec Ideal S325x128 .f32 :=
  match s with
  | ⟨0, _⟩ => pass (keyed 0 slices_S8x128_o0_0_S1x128 q k)
  | ⟨1, _⟩ => pass (keyed 1 slices_S8x128_o1_0_S1x128 q k)
  | ⟨2, _⟩ => pass (keyed 2 slices_S8x128_o2_0_S1x128 q k)
  | ⟨3, _⟩ => pass (keyed 3 slices_S8x128_o3_0_S1x128 q k)
  | ⟨4, _⟩ => pass (keyed 4 slices_S8x128_o4_0_S1x128 q k)
  | ⟨5, _⟩ => pass (keyed 5 slices_S8x128_o5_0_S1x128 q k)
  | ⟨6, _⟩ => pass (keyed 6 slices_S8x128_o6_0_S1x128 q k)
  | ⟨7, _⟩ => pass (keyed 7 slices_S8x128_o7_0_S1x128 q k)

/-- What the body multiplies by the table is the eight arrays side by side. -/
theorem pay12_eq (q : Vec Ideal S1x325x128 .f32) (k : Vec Ideal S1x8x128 .f32) :
    k0_pay12 (F := Ideal) (k0_pay2 q) (k0_pay3 k) (k0_pay4 q k) (k0_pay5 q k) (k0_pay7 (k0_pay6 q k)) (k0_pay8 (k0_pay2 q) (k0_pay3 k))
      (k0_pay9 (k0_pay2 q) (k0_pay3 k)) (k0_pay10 (k0_pay2 q) (k0_pay3 k)) (k0_pay11 (k0_pay2 q) (k0_pay3 k))
    = join (parts (k0_pay2 q) (k0_pay3 k)) := rfl

/-- Column number `c` of row `n`, where there is one. -/
def at' (x : FVec Ideal S325x128 .f32) (n : Fin 325) (c : ℕ) : EReal := if h : c < 128 then x (ix2 n ⟨c, h⟩) else 0

/-- A sum's column. -/
theorem at_add (x y : FVec Ideal S325x128 .f32) (n : Fin 325) (c : ℕ) : at' (addf x y) n c = at' x n c + at' y n c := by
  unfold at'
  split_ifs
  · rfl
  · simp

/-- A column of the array turned 8 places, short of the end. -/
theorem at_turn8 (x : FVec Ideal S325x128 .f32) (n : Fin 325) (c : ℕ) (h : c + 8 < 128) : at' (turn8 x) n c = at' x n (c + 8) := by
  unfold at'
  rw [dif_pos h, dif_pos (by omega : c < 128)]
  pointwise [turn8]
  rw [dif_pos (by omega : c < 128 - 8)]
  exact congrArg (fun j => x (ix2 n j)) (Fin.ext (by show 8 + c = c + 8; omega))

/-- A column of the array turned 4 places, short of the end. -/
theorem at_turn4 (x : FVec Ideal S325x128 .f32) (n : Fin 325) (c : ℕ) (h : c + 4 < 128) : at' (turn4 x) n c = at' x n (c + 4) := by
  unfold at'
  rw [dif_pos h, dif_pos (by omega : c < 128)]
  pointwise [turn4]
  rw [dif_pos (by omega : c < 128 - 4)]
  exact congrArg (fun j => x (ix2 n j)) (Fin.ext (by show 4 + c = c + 4; omega))

/-- A column of the array turned 2 places, short of the end. -/
theorem at_turn2 (x : FVec Ideal S325x128 .f32) (n : Fin 325) (c : ℕ) (h : c + 2 < 128) : at' (turn2 x) n c = at' x n (c + 2) := by
  unfold at'
  rw [dif_pos h, dif_pos (by omega : c < 128)]
  pointwise [turn2]
  rw [dif_pos (by omega : c < 128 - 2)]
  exact congrArg (fun j => x (ix2 n j)) (Fin.ext (by show 2 + c = c + 2; omega))

/-- A column of the array turned 1 places, short of the end. -/
theorem at_turn1 (x : FVec Ideal S325x128 .f32) (n : Fin 325) (c : ℕ) (h : c + 1 < 128) : at' (turn1 x) n c = at' x n (c + 1) := by
  unfold at'
  rw [dif_pos h, dif_pos (by omega : c < 128)]
  pointwise [turn1]
  rw [dif_pos (by omega : c < 128 - 1)]
  exact congrArg (fun j => x (ix2 n j)) (Fin.ext (by show 1 + c = c + 1; omega))

/-- The halvings leave in a head's first column the sum of its sixteen. -/
theorem at_fold (x : FVec Ideal S325x128 .f32) (n : Fin 325) (c : ℕ) (h : c + 15 < 128) :
    at' (fold x) n c = ∑ d : Fin 16, at' x n (c + d.val) := by
  unfold fold
  simp (disch := omega) only [at_add, at_turn8, at_turn4, at_turn2, at_turn1, Nat.add_assoc, Nat.reduceAdd]
  simp only [Fin.sum_univ_succ, Fin.sum_univ_zero, Fin.val_zero, Fin.val_succ, Nat.reduceAdd, Nat.add_zero, Nat.zero_add, add_zero]
  abel

/-- The same, read at the head's first column. -/
theorem pass_at (x : FVec Ideal S325x128 .f32) (n : Fin 325) (h : Fin 8) :
    pass x (ix2 n (col h 0)) = ∑ d : Fin 16, x (ix2 n (col h d)) := by
  have e := at_fold x n (16 * h.val) (by omega)
  have l : at' (fold x) n (16 * h.val) = pass x (ix2 n (col h 0)) := dif_pos (by omega : 16 * h.val < 128)
  rw [← l, e]
  exact Finset.sum_congr rfl fun d _ => dif_pos (by omega : 16 * h.val + d.val < 128)

/-- The products with one key row, at an index. -/
theorem keyed_at (o : ℕ) (h) (q : FVec Ideal S325x128 .f32) (k : FVec Ideal S8x128 .f32) (n : Fin 325) (c : Fin 128) (ho : o < 8) :
    keyed o h q k (ix2 n c) = q (ix2 n c) * k (ix2 ⟨o, ho⟩ c) := by
  pointwise [keyed]

/-- Head `h`'s first column of the part of key row `s`: the product of the two heads. -/
theorem parts_at (q : FVec Ideal S325x128 .f32) (k : FVec Ideal S8x128 .f32) (n : Fin 325) (s h : Fin 8) :
    parts q k s (ix2 n (col h 0)) = ∑ d : Fin 16, q (ix2 n (col h d)) * k (ix2 s (col h d)) :=
  match s with
  | ⟨0, _⟩ => (pass_at _ n h).trans (Finset.sum_congr rfl fun d _ => keyed_at 0 _ q k n (col h d) (by decide))
  | ⟨1, _⟩ => (pass_at _ n h).trans (Finset.sum_congr rfl fun d _ => keyed_at 1 _ q k n (col h d) (by decide))
  | ⟨2, _⟩ => (pass_at _ n h).trans (Finset.sum_congr rfl fun d _ => keyed_at 2 _ q k n (col h d) (by decide))
  | ⟨3, _⟩ => (pass_at _ n h).trans (Finset.sum_congr rfl fun d _ => keyed_at 3 _ q k n (col h d) (by decide))
  | ⟨4, _⟩ => (pass_at _ n h).trans (Finset.sum_congr rfl fun d _ => keyed_at 4 _ q k n (col h d) (by decide))
  | ⟨5, _⟩ => (pass_at _ n h).trans (Finset.sum_congr rfl fun d _ => keyed_at 5 _ q k n (col h d) (by decide))
  | ⟨6, _⟩ => (pass_at _ n h).trans (Finset.sum_congr rfl fun d _ => keyed_at 6 _ q k n (col h d) (by decide))
  | ⟨7, _⟩ => (pass_at _ n h).trans (Finset.sum_congr rfl fun d _ => keyed_at 7 _ q k n (col h d) (by decide))

/-- Choosing among eight pieces by comparing the column with the pieces' ends. -/
theorem ladder {α : Type} (g : Fin 8 → Fin 128 → α) (k j : Fin 8) (d e : Fin 128) (h : k = j) (h' : d = e) : g k d = g j e :=
  congrArg₂ g h h'

/-- Side by side, at an index: column `c` of piece `s`. -/
theorem join_at (f : Fin 8 → FVec Ideal S325x128 .f32) (n : Fin 325) (l : Fin 1024) :
    join f (ix2 n l) = f ⟨l.val / 128, by omega⟩ (ix2 n ⟨l.val % 128, by omega⟩) := by
  pointwise [join]
  have hl := l.isLt
  split_ifs <;> exact ladder (fun k d => f k (ix2 n d)) _ _ _ _ (Fin.ext (by first | (simp; omega) | (show (_ : ℕ) = l.val / 128; omega))) (Fin.ext (by first | (simp; omega) | (show (_ : ℕ) = l.val % 128; omega)))

/-- Multiplying by the table of zeros and ones picks columns out. -/
def sieve (S : FVec Ideal S325x1024 .f32) (E : FVec Ideal S1024x64 .f32) : FVec Ideal S325x64 .f32 :=
  matmul dot_S325x1024_S1024x64_S325x64_1_0_0_1_n_n none S E (constant S325x64 .f32 0x00000000#32)

/-- The picked columns: column `j` is head `j / 8`'s first column in piece `j % 8`. -/
theorem sieve_at (S : FVec Ideal S325x1024 .f32) (E : FVec Ideal S1024x64 .f32)
    (hE : ∀ (l : Fin 1024) (j : Fin 64), E (ix2 l j) = if l.val = j.val % 8 * 128 + j.val / 8 * 16 then (1 : EReal) else 0)
    (n : Fin 325) (j : Fin 64) :
    sieve S E (ix2 n j) = S (ix2 n ⟨j.val % 8 * 128 + j.val / 8 * 16, by omega⟩) := by
  have h : sieve S E (ix2 n j) = ∑ l : Fin 1024, S (ix2 n l) * E (ix2 l j) := by pointwise [sieve]
  have p : j.val % 8 * 128 + j.val / 8 * 16 < 1024 := by omega
  rw [h, Finset.sum_eq_single (⟨j.val % 8 * 128 + j.val / 8 * 16, p⟩ : Fin 1024)]
  · rw [hE, if_pos rfl, mul_one]
  · intro l _ hl
    rw [hE, if_neg (fun e => hl (Fin.ext e)), mul_zero]
  · intro hl
    exact absurd (Finset.mem_univ _) hl

/-- The weighting of one head's eight columns. -/
def weigh (o : ℕ) (h : S325x64.Slices ![0, o] S325x8) (T : FVec Ideal S325x64 .f32) (w : FVec Ideal S8x1 .f32) : FVec Ideal S325x1 .f32 :=
  matmul dot_S325x8_S8x1_S325x1_1_0_0_1_n_n none (extractStridedSlice S325x8 ![0, o] T h) w (constant S325x1 .f32 0x00000000#32)

/-- The weighting, at a node. -/
theorem weigh_at (o : ℕ) (h) (T : FVec Ideal S325x64 .f32) (w : FVec Ideal S8x1 .f32) (n : Fin 325) (ho : o + 8 ≤ 64) :
    weigh o h T w (ix2 n 0) = ∑ s : Fin 8, T (ix2 n ⟨o + s.val, by omega⟩) * w (ix2 s 0) := by
  pointwise [weigh]

/-- The weightings of the eight heads. -/
def heads (T : FVec Ideal S325x64 .f32) (w : FVec Ideal S8x1 .f32) (h : Fin 8) : FVec Ideal S325x1 .f32 :=
  match h with
  | ⟨0, _⟩ => weigh 0 slices_S325x64_o0_0_S325x8 T w
  | ⟨1, _⟩ => weigh 8 slices_S325x64_o0_8_S325x8 T w
  | ⟨2, _⟩ => weigh 16 slices_S325x64_o0_16_S325x8 T w
  | ⟨3, _⟩ => weigh 24 slices_S325x64_o0_24_S325x8 T w
  | ⟨4, _⟩ => weigh 32 slices_S325x64_o0_32_S325x8 T w
  | ⟨5, _⟩ => weigh 40 slices_S325x64_o0_40_S325x8 T w
  | ⟨6, _⟩ => weigh 48 slices_S325x64_o0_48_S325x8 T w
  | ⟨7, _⟩ => weigh 56 slices_S325x64_o0_56_S325x8 T w

/-- The weighting of any head, at a node. -/
theorem heads_at (T : FVec Ideal S325x64 .f32) (w : FVec Ideal S8x1 .f32) (n : Fin 325) (h : Fin 8) :
    heads T w h (ix2 n 0) = ∑ s : Fin 8, T (ix2 n ⟨8 * h.val + s.val, by omega⟩) * w (ix2 s 0) :=
  match h with
  | ⟨0, _⟩ => weigh_at 0 _ T w n (by decide)
  | ⟨1, _⟩ => weigh_at 8 _ T w n (by decide)
  | ⟨2, _⟩ => weigh_at 16 _ T w n (by decide)
  | ⟨3, _⟩ => weigh_at 24 _ T w n (by decide)
  | ⟨4, _⟩ => weigh_at 32 _ T w n (by decide)
  | ⟨5, _⟩ => weigh_at 40 _ T w n (by decide)
  | ⟨6, _⟩ => weigh_at 48 _ T w n (by decide)
  | ⟨7, _⟩ => weigh_at 56 _ T w n (by decide)

/-- Eight single columns side by side. -/
def eight (f : Fin 8 → FVec Ideal S325x1 .f32) : FVec Ideal S325x8 .f32 :=
  concatenate S325x8 1 [⟨S325x1, f 0⟩, ⟨S325x1, f 1⟩, ⟨S325x1, f 2⟩, ⟨S325x1, f 3⟩, ⟨S325x1, f 4⟩, ⟨S325x1, f 5⟩, ⟨S325x1, f 6⟩, ⟨S325x1, f 7⟩]
    concatenates_S325x1_S325x1_S325x1_S325x1_S325x1_S325x1_S325x1_S325x1_S325x8_d1

/-- Eight single columns, at an index. -/
theorem eight_at (f : Fin 8 → FVec Ideal S325x1 .f32) (n : Fin 325) (h : Fin 8) :
    eight f (ix2 n h) = f h (ix2 n 0) := by
  pointwise [eight]
  have hh := h.isLt
  split_ifs <;> exact congrArg₂ (fun k d => f k (ix2 n d)) (Fin.ext (by first | (simp; omega) | (show (_ : ℕ) = h.val; omega))) (Subsingleton.elim _ _)

/-- The stored block: the picked columns weighted and shifted. -/
theorem pay1_at (S : FVec Ideal S325x1024 .f32) (E : Vec Ideal S1024x64 .f32) (w : Vec Ideal S8x1 .f32) (b : Vec Ideal S1 .f32)
    (n : Fin 325) (h : Fin 8) :
    k0_pay1 (F := Ideal) S E w b (ix3 0 n h) = eight (heads (sieve S E) w) (ix2 n h) + b (ix1 0) := by
  have e : k0_pay1 (F := Ideal) S E w b = shapeCast S1x325x8 (addf (eight (heads (sieve S E) w))
      (broadcast S325x8 (extractAt ![0] b inpos_S1_p0))) shapeCasts_S325x8_S1x325x8 := rfl
  rw [e]
  generalize eight (heads (sieve S E) w) = y
  pointwise

/-- What the body stores of a slab, at node `n` and head `h`. -/
theorem stored_at (q : Vec Ideal S1x325x128 .f32) (k : Vec Ideal S1x8x128 .f32) (E : Vec Ideal S1024x64 .f32) (w : Vec Ideal S8x1 .f32)
    (b : Vec Ideal S1 .f32)
    (hE : ∀ (l : Fin 1024) (j : Fin 64), E (ix2 l j) = if l.val = j.val % 8 * 128 + j.val / 8 * 16 then (1 : EReal) else 0)
    (n : Fin 325) (h : Fin 8) :
    k0_pay1 (F := Ideal) (k0_pay12 (F := Ideal) (k0_pay2 q) (k0_pay3 k) (k0_pay4 q k) (k0_pay5 q k) (k0_pay7 (k0_pay6 q k)) (k0_pay8 (k0_pay2 q) (k0_pay3 k))
      (k0_pay9 (k0_pay2 q) (k0_pay3 k)) (k0_pay10 (k0_pay2 q) (k0_pay3 k)) (k0_pay11 (k0_pay2 q) (k0_pay3 k))) E w b (ix3 0 n h)
    = (∑ s : Fin 8, (∑ d : Fin 16, q (ix3 0 n (col h d)) * k (ix3 0 s (col h d))) * w (ix2 s 0)) + b (ix1 0) := by
  have hq : ∀ c : Fin 128, k0_pay2 (F := Ideal) q (ix2 n c) = q (ix3 0 n c) := fun c => by pointwise [k0_pay2]
  have hk : ∀ (s : Fin 8) (c : Fin 128), k0_pay3 (F := Ideal) k (ix2 s c) = k (ix3 0 s c) := fun s c => by pointwise [k0_pay3]
  rw [pay12_eq, pay1_at, eight_at, heads_at]
  refine congrArg (· + b (ix1 0)) (Finset.sum_congr rfl fun s _ => congrArg (· * w (ix2 s 0)) ?_)
  rw [sieve_at _ _ hE, join_at]
  refine Eq.trans (b := parts (k0_pay2 q) (k0_pay3 k) s (ix2 n (col h 0))) ?_ ?_
  · have p1 : (8 * h.val + s.val) % 8 = s.val := by omega
    have p2 : (8 * h.val + s.val) / 8 = h.val := by omega
    refine congrArg₂ (fun a c => parts (k0_pay2 q) (k0_pay3 k) a (ix2 n c)) (Fin.ext ?_) (Fin.ext ?_)
    · show ((8 * h.val + s.val) % 8 * 128 + (8 * h.val + s.val) / 8 * 16) / 128 = s.val
      rw [p1, p2]; omega
    · show ((8 * h.val + s.val) % 8 * 128 + (8 * h.val + s.val) / 8 * 16) % 128 = 16 * h.val + 0
      rw [p1, p2]; omega
  · rw [parts_at]
    exact Finset.sum_congr rfl fun d _ => by rw [hq, hk]

end Cert.ScoresIdeal.Block

end
-- ==== Proof.ScoreTable.lean ====
/- The matrix of zeros and ones the score call multiplies by: what its entries should be. -/
module

public import proofs.«01_k».proof.ScoresIdeal

@[expose] public section

set_option maxRecDepth 16384

noncomputable section

namespace Cert.ScoresIdeal.Table

open Cert.ScoresIdeal Idealize.ShloMosaic

/-- The bits of the table's entry at a row-major position. -/
def entry (i : ℕ) : BitVec 32 := lit0t i

/-- The bits of the entry at row `l`, column `j`: one where the row is the first column of head `j / 8` in the
    128 columns of node `j % 8`, zero elsewhere. -/
def bits (l j : ℕ) : BitVec 32 := if l = j % 8 * 128 + j / 8 * 16 then 0x3F800000#32 else 0x00000000#32

end Cert.ScoresIdeal.Table

end
-- ==== Proof.ScoreTable0.lean ====
/- The table of zeros and ones, rows 0 to 255. -/
module

public import proofs.«01_k».proof.Proof.ScoreTable

@[expose] public section

set_option maxRecDepth 16384

noncomputable section

namespace Cert.ScoresIdeal.Table

open Cert.ScoresIdeal Idealize.ShloMosaic

/-- Rows 0 to 63 of the table. -/
theorem rows_0 : ∀ l j : Fin 64, entry ((0 + l.val) * 64 + j.val) = bits (0 + l.val) j.val := by decide +kernel

/-- Rows 64 to 127 of the table. -/
theorem rows_1 : ∀ l j : Fin 64, entry ((64 + l.val) * 64 + j.val) = bits (64 + l.val) j.val := by decide +kernel

/-- Rows 128 to 191 of the table. -/
theorem rows_2 : ∀ l j : Fin 64, entry ((128 + l.val) * 64 + j.val) = bits (128 + l.val) j.val := by decide +kernel

/-- Rows 192 to 255 of the table. -/
theorem rows_3 : ∀ l j : Fin 64, entry ((192 + l.val) * 64 + j.val) = bits (192 + l.val) j.val := by decide +kernel

end Cert.ScoresIdeal.Table

end
-- ==== Proof.ScoreTable1.lean ====
/- The table of zeros and ones, rows 256 to 511. -/
module

public import proofs.«01_k».proof.Proof.ScoreTable

@[expose] public section

set_option maxRecDepth 16384

noncomputable section

namespace Cert.ScoresIdeal.Table

open Cert.ScoresIdeal Idealize.ShloMosaic

/-- Rows 256 to 319 of the table. -/
theorem rows_4 : ∀ l j : Fin 64, entry ((256 + l.val) * 64 + j.val) = bits (256 + l.val) j.val := by decide +kernel

/-- Rows 320 to 383 of the table. -/
theorem rows_5 : ∀ l j : Fin 64, entry ((320 + l.val) * 64 + j.val) = bits (320 + l.val) j.val := by decide +kernel

/-- Rows 384 to 447 of the table. -/
theorem rows_6 : ∀ l j : Fin 64, entry ((384 + l.val) * 64 + j.val) = bits (384 + l.val) j.val := by decide +kernel

/-- Rows 448 to 511 of the table. -/
theorem rows_7 : ∀ l j : Fin 64, entry ((448 + l.val) * 64 + j.val) = bits (448 + l.val) j.val := by decide +kernel

end Cert.ScoresIdeal.Table

end
-- ==== Proof.ScoreTable2.lean ====
/- The table of zeros and ones, rows 512 to 767. -/
module

public import proofs.«01_k».proof.Proof.ScoreTable

@[expose] public section

set_option maxRecDepth 16384

noncomputable section

namespace Cert.ScoresIdeal.Table

open Cert.ScoresIdeal Idealize.ShloMosaic

/-- Rows 512 to 575 of the table. -/
theorem rows_8 : ∀ l j : Fin 64, entry ((512 + l.val) * 64 + j.val) = bits (512 + l.val) j.val := by decide +kernel

/-- Rows 576 to 639 of the table. -/
theorem rows_9 : ∀ l j : Fin 64, entry ((576 + l.val) * 64 + j.val) = bits (576 + l.val) j.val := by decide +kernel

/-- Rows 640 to 703 of the table. -/
theorem rows_10 : ∀ l j : Fin 64, entry ((640 + l.val) * 64 + j.val) = bits (640 + l.val) j.val := by decide +kernel

/-- Rows 704 to 767 of the table. -/
theorem rows_11 : ∀ l j : Fin 64, entry ((704 + l.val) * 64 + j.val) = bits (704 + l.val) j.val := by decide +kernel

end Cert.ScoresIdeal.Table

end
-- ==== Proof.ScoreTable3.lean ====
/- The table of zeros and ones, rows 768 to 1023. -/
module

public import proofs.«01_k».proof.Proof.ScoreTable

@[expose] public section

set_option maxRecDepth 16384

noncomputable section

namespace Cert.ScoresIdeal.Table

open Cert.ScoresIdeal Idealize.ShloMosaic

/-- Rows 768 to 831 of the table. -/
theorem rows_12 : ∀ l j : Fin 64, entry ((768 + l.val) * 64 + j.val) = bits (768 + l.val) j.val := by decide +kernel

/-- Rows 832 to 895 of the table. -/
theorem rows_13 : ∀ l j : Fin 64, entry ((832 + l.val) * 64 + j.val) = bits (832 + l.val) j.val := by decide +kernel

/-- Rows 896 to 959 of the table. -/
theorem rows_14 : ∀ l j : Fin 64, entry ((896 + l.val) * 64 + j.val) = bits (896 + l.val) j.val := by decide +kernel

/-- Rows 960 to 1023 of the table. -/
theorem rows_15 : ∀ l j : Fin 64, entry ((960 + l.val) * 64 + j.val) = bits (960 + l.val) j.val := by decide +kernel

end Cert.ScoresIdeal.Table

end
-- ==== Proof.ScoreTableAt.lean ====
/- The matrix of zeros and ones the score call multiplies by, as values. -/
module

public import proofs.«01_k».proof.Proof.ScoreTable0
public import proofs.«01_k».proof.Proof.ScoreTable1
public import proofs.«01_k».proof.Proof.ScoreTable2
public import proofs.«01_k».proof.Proof.ScoreTable3
public import Idealize.ShloMosaic.Lib.Pointwise

@[expose] public section

set_option maxRecDepth 16384

noncomputable section

namespace Cert.ScoresIdeal.Table

open Cert.ScoresIdeal Idealize.ShloMosaic

/-- A row's number within its sixty-four. -/
theorem shifted (o : ℕ) (h : ∀ l j : Fin 64, entry ((o + l.val) * 64 + j.val) = bits (o + l.val) j.val)
    (l : Fin 1024) (j : Fin 64) (hl : o ≤ l.val) (hl' : l.val < o + 64) : entry (l.val * 64 + j.val) = bits l.val j.val := by
  have e : o + (l.val - o) = l.val := by omega
  have h' := h ⟨l.val - o, by omega⟩ j
  simp only [e] at h'
  exact h'

/-- The table's bits at a row and a column. -/
theorem bits_at (l : Fin 1024) (j : Fin 64) : entry (l.val * 64 + j.val) = bits l.val j.val := by
  have hl := l.isLt
  by_cases h0 : l.val < 64
  · exact shifted 0 rows_0 l j (by omega) (by omega)
  by_cases h1 : l.val < 128
  · exact shifted 64 rows_1 l j (by omega) (by omega)
  by_cases h2 : l.val < 192
  · exact shifted 128 rows_2 l j (by omega) (by omega)
  by_cases h3 : l.val < 256
  · exact shifted 192 rows_3 l j (by omega) (by omega)
  by_cases h4 : l.val < 320
  · exact shifted 256 rows_4 l j (by omega) (by omega)
  by_cases h5 : l.val < 384
  · exact shifted 320 rows_5 l j (by omega) (by omega)
  by_cases h6 : l.val < 448
  · exact shifted 384 rows_6 l j (by omega) (by omega)
  by_cases h7 : l.val < 512
  · exact shifted 448 rows_7 l j (by omega) (by omega)
  by_cases h8 : l.val < 576
  · exact shifted 512 rows_8 l j (by omega) (by omega)
  by_cases h9 : l.val < 640
  · exact shifted 576 rows_9 l j (by omega) (by omega)
  by_cases h10 : l.val < 704
  · exact shifted 640 rows_10 l j (by omega) (by omega)
  by_cases h11 : l.val < 768
  · exact shifted 704 rows_11 l j (by omega) (by omega)
  by_cases h12 : l.val < 832
  · exact shifted 768 rows_12 l j (by omega) (by omega)
  by_cases h13 : l.val < 896
  · exact shifted 832 rows_13 l j (by omega) (by omega)
  by_cases h14 : l.val < 960
  · exact shifted 896 rows_14 l j (by omega) (by omega)
  exact shifted 960 rows_15 l j (by omega) (by omega)

/-- The table as values. -/
def table : FVec Ideal S1024x64 .f32 := fun i => FloatOps.ofBits .f32 (lit0 (S1024x64.rowMajor i))

/-- The table's value at a row and a column. -/
theorem table_at (l : Fin 1024) (j : Fin 64) :
    table (ix2 l j) = if l.val = j.val % 8 * 128 + j.val / 8 * 16 then (1 : EReal) else 0 := by
  have e : lit0 (S1024x64.rowMajor (ix2 l j)) = bits l.val j.val := by
    refine Eq.trans ?_ (bits_at l j)
    exact congrArg entry (Shape.rowMajor_val_two (ix2 l j))
  show FloatOps.ofBits (F := Ideal) .f32 (lit0 (S1024x64.rowMajor (ix2 l j))) = _
  rw [e]
  unfold bits
  split_ifs
  · pointwise
  · pointwise

end Cert.ScoresIdeal.Table

end
-- ==== Proof.ScoreValue.lean ====
/- The score call: the array it leaves is the scores of the reference. -/
module

public import proofs.«01_k».proof.Defs
public import proofs.«01_k».proof.Proof.ScoreRef
public import proofs.«01_k».proof.Proof.ScoreBlock
public import proofs.«01_k».proof.Proof.ScoreTableAt
public import proofs.«01_k».proof.Proof.Gen.ScoresIdeal.Frame
public import Idealize.ShloMosaic.Lib.Claim
public import Idealize.ShloMosaic.Lib.Pointwise
public import Idealize.ShloMosaic.Lib.Pipeline.ValueKit

@[expose] public section

set_option maxRecDepth 16384

noncomputable section

namespace Cert.ScoresIdeal.Value

open Cert.ScoresIdeal Cert.ScoresIdeal.Gen Idealize.ShloMosaic Idealize.ShloMosaic.TcCoe Idealize.SL.Sem
open Idealize.ShloMosaic.Pipeline (Dat)
open Cert.Attn (hd col)
open Cert.ScoresReferenceIdeal.Stage (node first prod meas)

variable (m : (ℓ : Loc nD τ sig) → Buf (Elt Ideal) ℓ)

/-- The reference's scores, one slab of nodes and heads per time step of a batch entry. -/
def REF (Q K : FVec Ideal S31200x128 .f32) (w : FVec Ideal S8x1 .f32) (b : FVec Ideal S1 .f32) : FVec Ideal S96x325x8 .f32 :=
  fun i => meas Q K w b (i 0) (i 1) (i 2)

/-- The window positions at every grid point: queries, keys and scores move with the point, the rest stays. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0] ∧ win0_5.index t = ![t.val, 0, 0] :=
  (by decide +kernel : ∀ t : Fin grid0.N, _)

/-- The unfolded array at its three coordinates. -/
theorem slab_at (X : FVec Ideal S31200x128 .f32) (h) (g : Fin 96) (n : Fin 325) (k : Fin 128) :
    shapeCast S96x325x128 X h (ix3 g n k) = X (ix2 (node g n) k) := by
  pointwise [node]

/-- The queries staged at grid point `t` are slab `t`'s. -/
theorem queries (c : Dev nD) (t : Fin cfg0.N) (ht : t.val < 96) (n : Fin 325) (k : Fin 128) :
    (iblk m c 0 t : Vec Ideal S1x325x128 .f32) (ix3 0 n k)
      = (m ((c : Thread nD τ).loc main_arg0) : FVec Ideal S31200x128 .f32) (ix2 (node ⟨t.val, ht⟩ n) k) := by
  refine Eq.trans ?_ (slab_at _ shapeCasts_S31200x128_S96x325x128 _ _ _)
  blk_simp [iblk]
  entry_read
  blk_ext [idx t]

/-- The keys staged at grid point `t` are those of slab `t`'s first eight nodes. -/
theorem keys (c : Dev nD) (t : Fin cfg0.N) (ht : t.val < 96) (s : Fin 8) (k : Fin 128) :
    (X0_1 m c t : Vec Ideal S1x8x128 .f32) (ix3 0 s k)
      = (m ((c : Thread nD τ).loc main_arg1) : FVec Ideal S31200x128 .f32) (ix2 (node ⟨t.val, ht⟩ (first s)) k) := by
  refine Eq.trans ?_ (slab_at _ shapeCasts_S31200x128_S96x325x128 _ _ _)
  unfold X0_1 Pipeline.Window.fill
  rw [dif_pos (moved0_1 t _)]
  blk_simp [iblk]
  entry_read
  blk_ext [idx t, first]

/-- The table the call finds is the one of zeros and ones. -/
theorem found (c : Dev nD) : (V m c main_cst : FVec Ideal S1024x64 .f32) = Table.table := by
  entry_read
  rfl

/-- The table staged at grid point `t`. -/
theorem tables (c : Dev nD) (t : Fin cfg0.N) (l : Fin 1024) (j : Fin 64) :
    (iblk m c 2 t : Vec Ideal S1024x64 .f32) (ix2 l j) = Table.table (ix2 l j) := by
  refine Eq.trans ?_ (congrFun (found m c) (ix2 l j))
  blk_ext [iblk, idx t]

/-- What grid point `t` stores, read at a block index, is the reference's score at that index's place. -/
theorem point (c : Dev nD) (t : Fin cfg0.N) (y : S1x325x8.Idx) :
    k0_pay1 (F := Ideal) (k0_pay12 (F := Ideal) (k0_pay2 (iblk m c 0 t)) (k0_pay3 (X0_1 m c t)) (k0_pay4 (iblk m c 0 t) (X0_1 m c t))
      (k0_pay5 (iblk m c 0 t) (X0_1 m c t)) (k0_pay7 (k0_pay6 (iblk m c 0 t) (X0_1 m c t))) (k0_pay8 (k0_pay2 (iblk m c 0 t)) (k0_pay3 (X0_1 m c t)))
      (k0_pay9 (k0_pay2 (iblk m c 0 t)) (k0_pay3 (X0_1 m c t))) (k0_pay10 (k0_pay2 (iblk m c 0 t)) (k0_pay3 (X0_1 m c t)))
      (k0_pay11 (k0_pay2 (iblk m c 0 t)) (k0_pay3 (X0_1 m c t)))) (iblk m c 2 t) (iblk m c 3 t) (iblk m c 4 t) y
    = REF (m ((c : Thread nD τ).loc main_arg0)) (m ((c : Thread nD τ).loc main_arg1)) (m ((c : Thread nD τ).loc main_arg2))
        (m ((c : Thread nD τ).loc main_arg3)) (((cfg0.win 5).blk t).view.emb y) := by
  idx_vars y
  obtain rfl : y0 = 0 := Subsingleton.elim _ _
  have ht : t.val < 96 := t.isLt
  have he : (((cfg0.win 5).blk t).view.emb (ix3 0 y1 y2) : S96x325x8.Idx) = ix3 ⟨t.val, ht⟩ y1 y2 := by blk_ext [idx t]
  refine Eq.trans ?_ (congrArg (REF _ _ _ _) he).symm
  refine (Block.stored_at _ _ _ _ _ (fun l j => (tables m c t l j).trans (Table.table_at l j)) y1 y2).trans ?_
  have hw : ∀ s : Fin 8, (iblk m c 3 t : Vec Ideal S8x1 .f32) (ix2 s 0) = (m ((c : Thread nD τ).loc main_arg2) : FVec Ideal S8x1 .f32) (ix2 s 0) := fun s => by
    blk_ext [iblk, V_main_arg2, idx t]
  have hb : (iblk m c 4 t : Vec Ideal S1 .f32) (ix1 0) = (m ((c : Thread nD τ).loc main_arg3) : FVec Ideal S1 .f32) (ix1 0) := by
    blk_ext [iblk, V_main_arg3, idx t]
  rw [hb]
  refine congrArg (· + _) (Finset.sum_congr rfl fun s _ => ?_)
  rw [hw]
  refine congrArg (· * _) (Finset.sum_congr rfl fun d _ => ?_)
  rw [queries m c t ht, keys m c t ht]
  rfl

set_option maxHeartbeats 4000000 in
/-- After the run the scores are the reference's. -/
theorem final5 (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; unfold outsAt0; frame_out
  exact point m c t y

/-- The precondition at a column: the node numbers are the first eight in order. -/
theorem firsts [Cert.Pre_first_nodes.Facts] (hpre : Cert.Pre_ScoresIdeal_first_nodes m) (c : Dev nD) (s : Fin 8) :
    (m ((c : Thread nD τ).loc main_arg4) : IVec S1x8 32) (ix2 0 s) = BitVec.ofNat 32 s.val := by
  have e : ∀ a b : BitVec 32, IntOp.cmpi .eq a b = 1#1 → a = b := by
    intro a b h
    have h' : BitVec.ofBool (a == b) = 1#1 := h
    cases hb : (a == b)
    · rw [hb] at h'
      exact absurd h' (by decide)
    · exact eq_of_beq hb
  exact e _ _ (congrFun (hpre c) (ix2 0 s))

/-- The scores the call leaves are the reference's, where the static nodes are the first eight. -/
theorem algebraic [Cert.Pre_first_nodes.Facts] : Cert.algebraic_ScoresIdeal_ScoresReferenceIdeal_pre_first_nodes := by
  intro m g m' g' hpre hagree
  refine ⟨fun c => (dats m 0 c).arrAt 5 (cfgs 0).N, ?_, ?_⟩
  · run_from Cert.ScoresIdeal.Gen.run_main m g
  · refine θ_run_mono (Cert.ScoresReferenceIdeal.Value.run m' g') fun r h c => ?_
    obtain ⟨h0, hr⟩ := h c
    obtain ⟨a0, a1, a2, a3, a4⟩ := hagree c
    refine ⟨(h0.trans ?_).trans (final5 m c).symm, hr⟩
    rw [Cert.ScoresReferenceIdeal.Read.val_main_v36_eq, a0, a1, a2, a3, a4]
    funext i
    idx_vars i
    exact Cert.ScoresReferenceIdeal.Stage.v36_at _ _ _ _ _ (firsts m hpre c) _ _ _

end Cert.ScoresIdeal.Value

end
-- ==== Proof.lean ====
/- The proof of every claim of this certificate, put together from the modules under Proof/.
   Of the projection call, the score call and the attention call: each program ends without fault, with its arguments as they were and
   every semaphore counter at zero; the ideal program is the kernel read over the extended reals; and over the extended
   reals each call computes what its reference does (the attention call where the sampled positions are node numbers, the
   score call where the static nodes are the first eight). -/
module

public import proofs.«01_k».proof.Defs
public import proofs.«01_k».proof.Proof.Gen.Kernel.Frame
public import proofs.«01_k».proof.Proof.Gen.KernelIdeal.Frame
public import proofs.«01_k».proof.Proof.Gen.Qkv.Frame
public import proofs.«01_k».proof.Proof.Gen.QkvIdeal.Frame
public import proofs.«01_k».proof.Proof.Gen.QkvReferenceIdeal.Run
public import proofs.«01_k».proof.Proof.Gen.ReferenceIdeal.Run
public import proofs.«01_k».proof.Proof.Gen.Scores.Frame
public import proofs.«01_k».proof.Proof.Gen.ScoresIdeal.Frame
public import proofs.«01_k».proof.Proof.Gen.ScoresReferenceIdeal.Run
public import proofs.«01_k».proof.Proof.AttnClaim
public import proofs.«01_k».proof.Proof.QkvValue
public import proofs.«01_k».proof.Proof.ScoreValue
public import Idealize.ShloMosaic.Lib.Claim
public import Idealize.ShloMosaic.Lib.Quiescent

@[expose] public section

noncomputable section

namespace Cert.Proof

open Idealize.ShloMosaic Idealize.SL.Sem

/-- What the range of the sampled positions is written with: a scalar spreads over their shape. -/
theorem range_facts : Cert.Pre_node_numbers.Facts := ⟨by decide⟩

/-- What the static nodes' condition is written with takes no side conditions. -/
theorem first_facts : Cert.Pre_first_nodes.Facts := ⟨⟩

/-- Every run of the attention reference ends with its arguments as they were and every semaphore counter at zero. -/
theorem attention_reference_quiet : Cert.quiescent_ReferenceIdeal := fun m g _ =>
  θ_run_mono (Cert.ReferenceIdeal.Value.run m g) fun r h => ⟨fun c => (h c).2.2.2, sem_eq_zero_of_no_sems (by decide) r.2⟩

/-- Every run of the projection reference ends with its arguments as they were and every semaphore counter at zero. -/
theorem projection_reference_quiet : Cert.quiescent_QkvReferenceIdeal := fun m g _ =>
  θ_run_mono (Cert.QkvReferenceIdeal.Value.run m g) fun r h => ⟨fun c => (h c).2.2.2, sem_eq_zero_of_no_sems (by decide) r.2⟩

/-- Every run of the score reference ends with its arguments as they were and every semaphore counter at zero. -/
theorem score_reference_quiet : Cert.quiescent_ScoresReferenceIdeal := fun m g _ =>
  θ_run_mono (Cert.ScoresReferenceIdeal.Value.run m g) fun r h => ⟨fun c => (h c).2, sem_eq_zero_of_no_sems (by decide) r.2⟩

/-- All the claims of this certificate hold. -/
theorem claim : Cert.Claim :=
  ⟨Cert.Kernel.Gen.facts, Cert.KernelIdeal.Gen.facts, Cert.ReferenceIdeal.Gen.facts, Cert.Qkv.Gen.facts,
    Cert.QkvIdeal.Gen.facts, Cert.QkvReferenceIdeal.Gen.facts, Cert.Scores.Gen.facts,
    Cert.ScoresIdeal.Gen.facts, Cert.ScoresReferenceIdeal.Gen.facts, range_facts, first_facts,
    fun m ρ _ => Cert.Kernel.Gen.frame m ρ,
    fun m ρ _ => Cert.KernelIdeal.Gen.frame m ρ,
    fun m ρ _ => Cert.KernelIdeal.Gen.frame m ρ,
    attention_reference_quiet,
    fun m ρ _ => attention_reference_quiet m ρ trivial,
    fun m ρ _ => Cert.Qkv.Gen.frame m ρ,
    fun m ρ _ => Cert.QkvIdeal.Gen.frame m ρ,
    projection_reference_quiet,
    fun m ρ _ => Cert.Scores.Gen.frame m ρ,
    fun m ρ _ => Cert.ScoresIdeal.Gen.frame m ρ,
    fun m ρ _ => Cert.ScoresIdeal.Gen.frame m ρ,
    score_reference_quiet,
    fun m ρ _ => score_reference_quiet m ρ trivial,
    trivial,
    @Cert.KernelIdeal.Value.algebraic range_facts,
    trivial,
    Cert.QkvIdeal.Proj.algebraic,
    trivial,
    @Cert.ScoresIdeal.Value.algebraic first_facts⟩

end Cert.Proof

end
